-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cut_is_told_apart [hPre_cut_is_told_apart : Cert.Pre_cut_is_told_apart.Facts] (m : (ℓ : Loc Cert.KernelIdeal.nD Cert.KernelIdeal.τ Cert.KernelIdeal.sig) → Buf (Elt Ideal) ℓ) : Prop :=
  ∀ c : Dev Cert.KernelIdeal.nD,
    (Cert.Pre_cut_is_told_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cut_is_told_apart [hPre_cut_is_told_apart : Cert.Pre_cut_is_told_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cut_is_told_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_cut_is_told_apart [hKernelIdeal : Cert.KernelIdeal.Facts] [hPre_cut_is_told_apart : Cert.Pre_cut_is_told_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cut_is_told_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_cut_is_told_apart [hReferenceIdeal : Cert.ReferenceIdeal.Facts] [hPre_cut_is_told_apart : Cert.Pre_cut_is_told_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cut_is_told_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.sign_bit.Statement Cert.KernelIdeal.S128x2048 .f32

def algebraic_KernelIdeal_ReferenceIdeal_pre_cut_is_told_apart [hKernelIdeal : Cert.KernelIdeal.Facts] [hReferenceIdeal : Cert.ReferenceIdeal.Facts] [hPre_cut_is_told_apart : Cert.Pre_cut_is_told_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cut_is_told_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_cut_is_told_apart : Cert.Pre_cut_is_told_apart.Facts),
    quiescent_Kernel (hKernel := hKernel)
    ∧ quiescent_KernelIdeal (hKernelIdeal := hKernelIdeal)
    ∧ quiescent_KernelIdeal_pre_cut_is_told_apart (hKernelIdeal := hKernelIdeal) (hPre_cut_is_told_apart := hPre_cut_is_told_apart)
    ∧ quiescent_ReferenceIdeal (hReferenceIdeal := hReferenceIdeal)
    ∧ quiescent_ReferenceIdeal_pre_cut_is_told_apart (hReferenceIdeal := hReferenceIdeal) (hPre_cut_is_told_apart := hPre_cut_is_told_apart)
    ∧ preserves_Kernel_KernelIdeal
    ∧ algebraic_KernelIdeal_ReferenceIdeal_pre_cut_is_told_apart (hKernelIdeal := hKernelIdeal) (hReferenceIdeal := hReferenceIdeal) (hPre_cut_is_told_apart := hPre_cut_is_told_apart)
-- ==== Pre_cut_is_told_apart.lean ====
abbrev S4096x768 : Shape := ⟨2, ![4096, 768]⟩
abbrev S768x16384 : Shape := ⟨2, ![768, 16384]⟩
abbrev S16384 : Shape := ⟨1, ![16384]⟩
abbrev S16384x768 : Shape := ⟨2, ![16384, 768]⟩
abbrev S768 : Shape := ⟨1, ![768]⟩
abbrev S4096x16384 : Shape := ⟨2, ![4096, 16384]⟩
abbrev S1x16384 : Shape := ⟨2, ![1, 16384]⟩
abbrev S4096x64 : Shape := ⟨2, ![4096, 64]⟩
abbrev S4096x1 : Shape := ⟨2, ![4096, 1]⟩
abbrev S_ : Shape := ⟨0, ![]⟩
abbrev S4096 : Shape := ⟨1, ![4096]⟩

class Facts : Prop where
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  sliceFits_S4096x16384_S4096x64 : S4096x16384.Slices (fun _ => 0) S4096x64
  slices_S4096x64_S4096x1_0_63 : S4096x64.Slices ![0, 63] S4096x1
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  natLt_1_32 : 1 < 32
  reducesTo_S4096x16384_S4096_d1 : S4096x16384.ReducesTo [1] S4096
  h_S_ : 0 < S_.numel
  bcast_S4096_S4096x1_0 : S4096.BroadcastsInDim S4096x1 (![0] : Fin 1 → Fin S4096x1.rank)
  dot_S4096x768_S768x16384_S4096x16384_1_0_0_1_n_n_wf : DotDims.WF S4096x768 S768x16384 S4096x16384 [1] [0] [0] [1] [] []

variable [Facts]

def dot_S4096x768_S768x16384_S4096x16384_1_0_0_1_n_n : DotDims S4096x768 S768x16384 S4096x16384 where
  lhsContracting := [1]
  rhsContracting := [0]
  lhsNonContracting := [0]
  rhsNonContracting := [1]
  lhsBatch := []
  rhsBatch := []
  wf := dot_S4096x768_S768x16384_S4096x16384_1_0_0_1_n_n_wf
def fn_where {F : FTy → Type} [FloatOps F] (arg0 : IVec S4096x1 1) (arg1 : IVec S4096x1 32) (arg2 : IVec S4096x1 32) : IVec S4096x1 32 :=
  let v0 : IVec S4096x1 32 := select arg0 arg1 arg2
  v0

def fn_part8 {F : FTy → Type} [FloatOps F] (main_v4 : FVec F S4096x16384 .f32) (main_v5 : FVec F S4096x1 .f32) (main_v156 : IVec S4096x1 32) (main_v157 : IVec S4096x1 32) : IVec S4096x1 1 :=
  let main_v158 : IVec S4096x1 32 := ori main_v156 main_v157
  let main_v159 : FVec F S4096x1 .f32 := bitcastToFloat .f32 main_v158
  let main_v160 : IVec S4096x1 1 := cmpf .ole main_v159 main_v5
  let main_v161 : IVec S4096x1 32 := fn_where (F := F) main_v160 main_v158 main_v156
  let main_v162 : FVec F S4096x1 .f32 := bitcastToFloat .f32 main_v161
  let main_v163 : FVec F S4096x16384 .f32 := broadcastInDim S4096x16384 ![0, 1] bcast_S4096x1_S4096x16384_0_1 main_v162
  let main_v164 : IVec S4096x16384 1 := cmpf .oge main_v4 main_v163
  let main_v165 : IVec S4096x16384 32 := (extui 32 · natLt_1_32) main_v164
  let main_c_31 : IVec S_ 32 := constantI S_ 32 0#32
  let main_v166 : IVec S4096 32 := (fun x v => Host.reduce IntOp.addi x v reducesTo_S4096x16384_S4096_d1 h_S_) main_v165 main_c_31
  let main_v167 : IVec S4096x1 32 := broadcastInDim S4096x1 ![0] bcast_S4096_S4096x1_0 main_v166
  let main_v168 : IVec S4096x1 1 := cmpf .oeq main_v162 main_v5
  let main_c_32 : IVec S_ 32 := constantI S_ 32 64#32
  let main_v169 : IVec S4096x1 32 := broadcastInDim S4096x1 ![] bcast_S_S4096x1 main_c_32
  let main_v170 : IVec S4096x1 1 := cmpi .eq main_v167 main_v169
  let main_v171 : IVec S4096x1 1 := ori main_v168 main_v170
  main_v171

def fn_part7 {F : FTy → Type} [FloatOps F] (main_v4 : FVec F S4096x16384 .f32) (main_v5 : FVec F S4096x1 .f32) (main_v136 : IVec S4096x1 32) (main_v137 : IVec S4096x1 32) : IVec S4096x1 1 :=
  let main_v138 : IVec S4096x1 32 := ori main_v136 main_v137
  let main_v139 : FVec F S4096x1 .f32 := bitcastToFloat .f32 main_v138
  let main_v140 : IVec S4096x1 1 := cmpf .ole main_v139 main_v5
  let main_v141 : IVec S4096x1 32 := fn_where (F := F) main_v140 main_v138 main_v136
  let main_c_27 : IVec S_ 32 := constantI S_ 32 8#32
  let main_v142 : IVec S4096x1 32 := broadcastInDim S4096x1 ![] bcast_S_S4096x1 main_c_27
  let main_v143 : IVec S4096x1 32 := ori main_v141 main_v142
  let main_v144 : FVec F S4096x1 .f32 := bitcastToFloat .f32 main_v143
  let main_v145 : IVec S4096x1 1 := cmpf .ole main_v144 main_v5
  let main_v146 : IVec S4096x1 32 := fn_where (F := F) main_v145 main_v143 main_v141
  let main_c_28 : IVec S_ 32 := constantI S_ 32 4#32
  let main_v147 : IVec S4096x1 32 := broadcastInDim S4096x1 ![] bcast_S_S4096x1 main_c_28
  let main_v148 : IVec S4096x1 32 := ori main_v146 main_v147
  let main_v149 : FVec F S4096x1 .f32 := bitcastToFloat .f32 main_v148
  let main_v150 : IVec S4096x1 1 := cmpf .ole main_v149 main_v5
  let main_v151 : IVec S4096x1 32 := fn_where (F := F) main_v150 main_v148 main_v146
  let main_c_29 : IVec S_ 32 := constantI S_ 32 2#32
  let main_v152 : IVec S4096x1 32 := broadcastInDim S4096x1 ![] bcast_S_S4096x1 main_c_29
  let main_v153 : IVec S4096x1 32 := ori main_v151 main_v152
  let main_v154 : FVec F S4096x1 .f32 := bitcastToFloat .f32 main_v153
  let main_v155 : IVec S4096x1 1 := cmpf .ole main_v154 main_v5
  let main_v156 : IVec S4096x1 32 := fn_where (F := F) main_v155 main_v153 main_v151
  let main_c_30 : IVec S_ 32 := constantI S_ 32 1#32
  let main_v157 : IVec S4096x1 32 := broadcastInDim S4096x1 ![] bcast_S_S4096x1 main_c_30
  fn_part8 (F := F) main_v4 main_v5 main_v156 main_v157

def fn_part6 {F : FTy → Type} [FloatOps F] (main_v4 : FVec F S4096x16384 .f32) (main_v5 : FVec F S4096x1 .f32) (main_v116 : IVec S4096x1 32) (main_v117 : IVec S4096x1 32) : IVec S4096x1 1 :=
  let main_v118 : IVec S4096x1 32 := ori main_v116 main_v117
  let main_v119 : FVec F S4096x1 .f32 := bitcastToFloat .f32 main_v118
  let main_v120 : IVec S4096x1 1 := cmpf .ole main_v119 main_v5
  let main_v121 : IVec S4096x1 32 := fn_where (F := F) main_v120 main_v118 main_v116
  let main_c_23 : IVec S_ 32 := constantI S_ 32 128#32
  let main_v122 : IVec S4096x1 32 := broadcastInDim S4096x1 ![] bcast_S_S4096x1 main_c_23
  let main_v123 : IVec S4096x1 32 := ori main_v121 main_v122
  let main_v124 : FVec F S4096x1 .f32 := bitcastToFloat .f32 main_v123
  let main_v125 : IVec S4096x1 1 := cmpf .ole main_v124 main_v5
  let main_v126 : IVec S4096x1 32 := fn_where (F := F) main_v125 main_v123 main_v121
  let main_c_24 : IVec S_ 32 := constantI S_ 32 64#32
  let main_v127 : IVec S4096x1 32 := broadcastInDim S4096x1 ![] bcast_S_S4096x1 main_c_24
  let main_v128 : IVec S4096x1 32 := ori main_v126 main_v127
  let main_v129 : FVec F S4096x1 .f32 := bitcastToFloat .f32 main_v128
  let main_v130 : IVec S4096x1 1 := cmpf .ole main_v129 main_v5
  let main_v131 : IVec S4096x1 32 := fn_where (F := F) main_v130 main_v128 main_v126
  let main_c_25 : IVec S_ 32 := constantI S_ 32 32#32
  let main_v132 : IVec S4096x1 32 := broadcastInDim S4096x1 ![] bcast_S_S4096x1 main_c_25
  let main_v133 : IVec S4096x1 32 := ori main_v131 main_v132
  let main_v134 : FVec F S4096x1 .f32 := bitcastToFloat .f32 main_v133
  let main_v135 : IVec S4096x1 1 := cmpf .ole main_v134 main_v5
  let main_v136 : IVec S4096x1 32 := fn_where (F := F) main_v135 main_v133 main_v131
  let main_c_26 : IVec S_ 32 := constantI S_ 32 16#32
  let main_v137 : IVec S4096x1 32 := broadcastInDim S4096x1 ![] bcast_S_S4096x1 main_c_26
  fn_part7 (F := F) main_v4 main_v5 main_v136 main_v137

def fn_part5 {F : FTy → Type} [FloatOps F] (main_v4 : FVec F S4096x16384 .f32) (main_v5 : FVec F S4096x1 .f32) (main_v96 : IVec S4096x1 32) (main_v97 : IVec S4096x1 32) : IVec S4096x1 1 :=
  let main_v98 : IVec S4096x1 32 := ori main_v96 main_v97
  let main_v99 : FVec F S4096x1 .f32 := bitcastToFloat .f32 main_v98
  let main_v100 : IVec S4096x1 1 := cmpf .ole main_v99 main_v5
  let main_v101 : IVec S4096x1 32 := fn_where (F := F) main_v100 main_v98 main_v96
  let main_c_19 : IVec S_ 32 := constantI S_ 32 2048#32
  let main_v102 : IVec S4096x1 32 := broadcastInDim S4096x1 ![] bcast_S_S4096x1 main_c_19
  let main_v103 : IVec S4096x1 32 := ori main_v101 main_v102
  let main_v104 : FVec F S4096x1 .f32 := bitcastToFloat .f32 main_v103
  let main_v105 : IVec S4096x1 1 := cmpf .ole main_v104 main_v5
  let main_v106 : IVec S4096x1 32 := fn_where (F := F) main_v105 main_v103 main_v101
  let main_c_20 : IVec S_ 32 := constantI S_ 32 1024#32
  let main_v107 : IVec S4096x1 32 := broadcastInDim S4096x1 ![] bcast_S_S4096x1 main_c_20
  let main_v108 : IVec S4096x1 32 := ori main_v106 main_v107
  let main_v109 : FVec F S4096x1 .f32 := bitcastToFloat .f32 main_v108
  let main_v110 : IVec S4096x1 1 := cmpf .ole main_v109 main_v5
  let main_v111 : IVec S4096x1 32 := fn_where (F := F) main_v110 main_v108 main_v106
  let main_c_21 : IVec S_ 32 := constantI S_ 32 512#32
  let main_v112 : IVec S4096x1 32 := broadcastInDim S4096x1 ![] bcast_S_S4096x1 main_c_21
  let main_v113 : IVec S4096x1 32 := ori main_v111 main_v112
  let main_v114 : FVec F S4096x1 .f32 := bitcastToFloat .f32 main_v113
  let main_v115 : IVec S4096x1 1 := cmpf .ole main_v114 main_v5
  let main_v116 : IVec S4096x1 32 := fn_where (F := F) main_v115 main_v113 main_v111
  let main_c_22 : IVec S_ 32 := constantI S_ 32 256#32
  let main_v117 : IVec S4096x1 32 := broadcastInDim S4096x1 ![] bcast_S_S4096x1 main_c_22
  fn_part6 (F := F) main_v4 main_v5 main_v116 main_v117

def fn_part4 {F : FTy → Type} [FloatOps F] (main_v4 : FVec F S4096x16384 .f32) (main_v5 : FVec F S4096x1 .f32) (main_v76 : IVec S4096x1 32) (main_v77 : IVec S4096x1 32) : IVec S4096x1 1 :=
  let main_v78 : IVec S4096x1 32 := ori main_v76 main_v77
  let main_v79 : FVec F S4096x1 .f32 := bitcastToFloat .f32 main_v78
  let main_v80 : IVec S4096x1 1 := cmpf .ole main_v79 main_v5
  let main_v81 : IVec S4096x1 32 := fn_where (F := F) main_v80 main_v78 main_v76
  let main_c_15 : IVec S_ 32 := constantI S_ 32 32768#32
  let main_v82 : IVec S4096x1 32 := broadcastInDim S4096x1 ![] bcast_S_S4096x1 main_c_15
  let main_v83 : IVec S4096x1 32 := ori main_v81 main_v82
  let main_v84 : FVec F S4096x1 .f32 := bitcastToFloat .f32 main_v83
  let main_v85 : IVec S4096x1 1 := cmpf .ole main_v84 main_v5
  let main_v86 : IVec S4096x1 32 := fn_where (F := F) main_v85 main_v83 main_v81
  let main_c_16 : IVec S_ 32 := constantI S_ 32 16384#32
  let main_v87 : IVec S4096x1 32 := broadcastInDim S4096x1 ![] bcast_S_S4096x1 main_c_16
  let main_v88 : IVec S4096x1 32 := ori main_v86 main_v87
  let main_v89 : FVec F S4096x1 .f32 := bitcastToFloat .f32 main_v88
  let main_v90 : IVec S4096x1 1 := cmpf .ole main_v89 main_v5
  let main_v91 : IVec S4096x1 32 := fn_where (F := F) main_v90 main_v88 main_v86
  let main_c_17 : IVec S_ 32 := constantI S_ 32 8192#32
  let main_v92 : IVec S4096x1 32 := broadcastInDim S4096x1 ![] bcast_S_S4096x1 main_c_17
  let main_v93 : IVec S4096x1 32 := ori main_v91 main_v92
  let main_v94 : FVec F S4096x1 .f32 := bitcastToFloat .f32 main_v93
  let main_v95 : IVec S4096x1 1 := cmpf .ole main_v94 main_v5
  let main_v96 : IVec S4096x1 32 := fn_where (F := F) main_v95 main_v93 main_v91
  let main_c_18 : IVec S_ 32 := constantI S_ 32 4096#32
  let main_v97 : IVec S4096x1 32 := broadcastInDim S4096x1 ![] bcast_S_S4096x1 main_c_18
  fn_part5 (F := F) main_v4 main_v5 main_v96 main_v97

def fn_part3 {F : FTy → Type} [FloatOps F] (main_v4 : FVec F S4096x16384 .f32) (main_v5 : FVec F S4096x1 .f32) (main_v56 : IVec S4096x1 32) (main_v57 : IVec S4096x1 32) : IVec S4096x1 1 :=
  let main_v58 : IVec S4096x1 32 := ori main_v56 main_v57
  let main_v59 : FVec F S4096x1 .f32 := bitcastToFloat .f32 main_v58
  let main_v60 : IVec S4096x1 1 := cmpf .ole main_v59 main_v5
  let main_v61 : IVec S4096x1 32 := fn_where (F := F) main_v60 main_v58 main_v56
  let main_c_11 : IVec S_ 32 := constantI S_ 32 524288#32
  let main_v62 : IVec S4096x1 32 := broadcastInDim S4096x1 ![] bcast_S_S4096x1 main_c_11
  let main_v63 : IVec S4096x1 32 := ori main_v61 main_v62
  let main_v64 : FVec F S4096x1 .f32 := bitcastToFloat .f32 main_v63
  let main_v65 : IVec S4096x1 1 := cmpf .ole main_v64 main_v5
  let main_v66 : IVec S4096x1 32 := fn_where (F := F) main_v65 main_v63 main_v61
  let main_c_12 : IVec S_ 32 := constantI S_ 32 262144#32
  let main_v67 : IVec S4096x1 32 := broadcastInDim S4096x1 ![] bcast_S_S4096x1 main_c_12
  let main_v68 : IVec S4096x1 32 := ori main_v66 main_v67
  let main_v69 : FVec F S4096x1 .f32 := bitcastToFloat .f32 main_v68
  let main_v70 : IVec S4096x1 1 := cmpf .ole main_v69 main_v5
  let main_v71 : IVec S4096x1 32 := fn_where (F := F) main_v70 main_v68 main_v66
  let main_c_13 : IVec S_ 32 := constantI S_ 32 131072#32
  let main_v72 : IVec S4096x1 32 := broadcastInDim S4096x1 ![] bcast_S_S4096x1 main_c_13
  let main_v73 : IVec S4096x1 32 := ori main_v71 main_v72
  let main_v74 : FVec F S4096x1 .f32 := bitcastToFloat .f32 main_v73
  let main_v75 : IVec S4096x1 1 := cmpf .ole main_v74 main_v5
  let main_v76 : IVec S4096x1 32 := fn_where (F := F) main_v75 main_v73 main_v71
  let main_c_14 : IVec S_ 32 := constantI S_ 32 65536#32
  let main_v77 : IVec S4096x1 32 := broadcastInDim S4096x1 ![] bcast_S_S4096x1 main_c_14
  fn_part4 (F := F) main_v4 main_v5 main_v76 main_v77

def fn_part2 {F : FTy → Type} [FloatOps F] (main_v4 : FVec F S4096x16384 .f32) (main_v5 : FVec F S4096x1 .f32) (main_v36 : IVec S4096x1 32) (main_v37 : IVec S4096x1 32) : IVec S4096x1 1 :=
  let main_v38 : IVec S4096x1 32 := ori main_v36 main_v37
  let main_v39 : FVec F S4096x1 .f32 := bitcastToFloat .f32 main_v38
  let main_v40 : IVec S4096x1 1 := cmpf .ole main_v39 main_v5
  let main_v41 : IVec S4096x1 32 := fn_where (F := F) main_v40 main_v38 main_v36
  let main_c_7 : IVec S_ 32 := constantI S_ 32 8388608#32
  let main_v42 : IVec S4096x1 32 := broadcastInDim S4096x1 ![] bcast_S_S4096x1 main_c_7
  let main_v43 : IVec S4096x1 32 := ori main_v41 main_v42
  let main_v44 : FVec F S4096x1 .f32 := bitcastToFloat .f32 main_v43
  let main_v45 : IVec S4096x1 1 := cmpf .ole main_v44 main_v5
  let main_v46 : IVec S4096x1 32 := fn_where (F := F) main_v45 main_v43 main_v41
  let main_c_8 : IVec S_ 32 := constantI S_ 32 4194304#32
  let main_v47 : IVec S4096x1 32 := broadcastInDim S4096x1 ![] bcast_S_S4096x1 main_c_8
  let main_v48 : IVec S4096x1 32 := ori main_v46 main_v47
  let main_v49 : FVec F S4096x1 .f32 := bitcastToFloat .f32 main_v48
  let main_v50 : IVec S4096x1 1 := cmpf .ole main_v49 main_v5
  let main_v51 : IVec S4096x1 32 := fn_where (F := F) main_v50 main_v48 main_v46
  let main_c_9 : IVec S_ 32 := constantI S_ 32 2097152#32
  let main_v52 : IVec S4096x1 32 := broadcastInDim S4096x1 ![] bcast_S_S4096x1 main_c_9
  let main_v53 : IVec S4096x1 32 := ori main_v51 main_v52
  let main_v54 : FVec F S4096x1 .f32 := bitcastToFloat .f32 main_v53
  let main_v55 : IVec S4096x1 1 := cmpf .ole main_v54 main_v5
  let main_v56 : IVec S4096x1 32 := fn_where (F := F) main_v55 main_v53 main_v51
  let main_c_10 : IVec S_ 32 := constantI S_ 32 1048576#32
  let main_v57 : IVec S4096x1 32 := broadcastInDim S4096x1 ![] bcast_S_S4096x1 main_c_10
  fn_part3 (F := F) main_v4 main_v5 main_v56 main_v57

def fn_part1 {F : FTy → Type} [FloatOps F] (main_v4 : FVec F S4096x16384 .f32) (main_v5 : FVec F S4096x1 .f32) (main_v16 : IVec S4096x1 32) (main_v17 : IVec S4096x1 32) : IVec S4096x1 1 :=
  let main_v18 : IVec S4096x1 32 := ori main_v16 main_v17
  let main_v19 : FVec F S4096x1 .f32 := bitcastToFloat .f32 main_v18
  let main_v20 : IVec S4096x1 1 := cmpf .ole main_v19 main_v5
  let main_v21 : IVec S4096x1 32 := fn_where (F := F) main_v20 main_v18 main_v16
  let main_c_3 : IVec S_ 32 := constantI S_ 32 134217728#32
  let main_v22 : IVec S4096x1 32 := broadcastInDim S4096x1 ![] bcast_S_S4096x1 main_c_3
  let main_v23 : IVec S4096x1 32 := ori main_v21 main_v22
  let main_v24 : FVec F S4096x1 .f32 := bitcastToFloat .f32 main_v23
  let main_v25 : IVec S4096x1 1 := cmpf .ole main_v24 main_v5
  let main_v26 : IVec S4096x1 32 := fn_where (F := F) main_v25 main_v23 main_v21
  let main_c_4 : IVec S_ 32 := constantI S_ 32 67108864#32
  let main_v27 : IVec S4096x1 32 := broadcastInDim S4096x1 ![] bcast_S_S4096x1 main_c_4
  let main_v28 : IVec S4096x1 32 := ori main_v26 main_v27
  let main_v29 : FVec F S4096x1 .f32 := bitcastToFloat .f32 main_v28
  let main_v30 : IVec S4096x1 1 := cmpf .ole main_v29 main_v5
  let main_v31 : IVec S4096x1 32 := fn_where (F := F) main_v30 main_v28 main_v26
  let main_c_5 : IVec S_ 32 := constantI S_ 32 33554432#32
  let main_v32 : IVec S4096x1 32 := broadcastInDim S4096x1 ![] bcast_S_S4096x1 main_c_5
  let main_v33 : IVec S4096x1 32 := ori main_v31 main_v32
  let main_v34 : FVec F S4096x1 .f32 := bitcastToFloat .f32 main_v33
  let main_v35 : IVec S4096x1 1 := cmpf .ole main_v34 main_v5
  let main_v36 : IVec S4096x1 32 := fn_where (F := F) main_v35 main_v33 main_v31
  let main_c_6 : IVec S_ 32 := constantI S_ 32 16777216#32
  let main_v37 : IVec S4096x1 32 := broadcastInDim S4096x1 ![] bcast_S_S4096x1 main_c_6
  fn_part2 (F := F) main_v4 main_v5 main_v36 main_v37

def fn {F : FTy → Type} [FloatOps F] (main_arg0 : FVec F S4096x768 .f32) (main_arg1 : FVec F S768x16384 .f32) (main_arg2 : FVec F S16384 .f32) (main_arg3 : FVec F S16384x768 .f32) (main_arg4 : FVec F S768 .f32) : IVec S4096x1 1 :=
  let main_v0 : FVec F S4096x16384 .f32 := (fun l r => Host.dotGeneral dot_S4096x768_S768x16384_S4096x16384_1_0_0_1_n_n none l r) main_arg0 main_arg1
  let main_v1 : FVec F S1x16384 .f32 := broadcastInDim S1x16384 ![1] bcast_S16384_S1x16384_1 main_arg2
  let main_v2 : FVec F S4096x16384 .f32 := broadcastInDim S4096x16384 ![0, 1] bcast_S1x16384_S4096x16384_0_1 main_v1
  let main_v3 : FVec F S4096x16384 .f32 := addf main_v0 main_v2
  let main_v4 : FVec F S4096x16384 .f32 := Host.absf main_v3
  let main_values : FVec F S4096x64 .f32 := (fun x => (Host.topK S4096x64 1 (FloatOps.cmpfTotal .gt) x sliceFits_S4096x16384_S4096x64).1) main_v4
  let main_indices : IVec S4096x64 32 := (fun x => (Host.topK S4096x64 1 (FloatOps.cmpfTotal .gt) x sliceFits_S4096x16384_S4096x64).2) main_v4
  let main_v5 : FVec F S4096x1 .f32 := (extractStridedSlice S4096x1 ![0, 63] · slices_S4096x64_S4096x1_0_63) main_values
  let main_c : IVec S_ 32 := constantI S_ 32 0#32
  let main_v6 : IVec S4096x1 32 := broadcastInDim S4096x1 ![] bcast_S_S4096x1 main_c
  let main_c_0 : IVec S_ 32 := constantI S_ 32 1073741824#32
  let main_v7 : IVec S4096x1 32 := broadcastInDim S4096x1 ![] bcast_S_S4096x1 main_c_0
  let main_v8 : IVec S4096x1 32 := ori main_v6 main_v7
  let main_v9 : FVec F S4096x1 .f32 := bitcastToFloat .f32 main_v8
  let main_v10 : IVec S4096x1 1 := cmpf .ole main_v9 main_v5
  let main_v11 : IVec S4096x1 32 := fn_where (F := F) main_v10 main_v8 main_v6
  let main_c_1 : IVec S_ 32 := constantI S_ 32 536870912#32
  let main_v12 : IVec S4096x1 32 := broadcastInDim S4096x1 ![] bcast_S_S4096x1 main_c_1
  let main_v13 : IVec S4096x1 32 := ori main_v11 main_v12
  let main_v14 : FVec F S4096x1 .f32 := bitcastToFloat .f32 main_v13
  let main_v15 : IVec S4096x1 1 := cmpf .ole main_v14 main_v5
  let main_v16 : IVec S4096x1 32 := fn_where (F := F) main_v15 main_v13 main_v11
  let main_c_2 : IVec S_ 32 := constantI S_ 32 268435456#32
  let main_v17 : IVec S4096x1 32 := broadcastInDim S4096x1 ![] bcast_S_S4096x1 main_c_2
  fn_part1 (F := F) main_v4 main_v5 main_v16 main_v17
-- ==== Kernel.lean ====
abbrev S4096x768 : Shape := ⟨2, ![4096, 768]⟩
abbrev S768x16384 : Shape := ⟨2, ![768, 16384]⟩
abbrev S16384 : Shape := ⟨1, ![16384]⟩
abbrev S16384x768 : Shape := ⟨2, ![16384, 768]⟩
abbrev S768 : Shape := ⟨1, ![768]⟩
abbrev S1x16384 : Shape := ⟨2, ![1, 16384]⟩
abbrev S1x768 : Shape := ⟨2, ![1, 768]⟩
abbrev S4096x16384 : Shape := ⟨2, ![4096, 16384]⟩
abbrev S128x768 : Shape := ⟨2, ![128, 768]⟩
abbrev S768x2048 : Shape := ⟨2, ![768, 2048]⟩
abbrev S1x2048 : Shape := ⟨2, ![1, 2048]⟩
abbrev S128x16384 : Shape := ⟨2, ![128, 16384]⟩
abbrev S2x128x16384 : Shape := ⟨3, ![2, 128, 16384]⟩
abbrev S128x1 : Shape := ⟨2, ![128, 1]⟩
abbrev S128x2048 : Shape := ⟨2, ![128, 2048]⟩
abbrev S1x128x2048 : Shape := ⟨3, ![1, 128, 2048]⟩
abbrev S1x128x16384 : Shape := ⟨3, ![1, 128, 16384]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x768, .f32⟩
  | .hbm, ⟨1, _⟩ => ⟨S768x16384, .f32⟩
  | .hbm, ⟨2, _⟩ => ⟨S16384, .f32⟩
  | .hbm, ⟨3, _⟩ => ⟨S16384x768, .f32⟩
  | .hbm, ⟨4, _⟩ => ⟨S768, .f32⟩
  | .hbm, ⟨5, _⟩ => ⟨S1x16384, .f32⟩
  | .hbm, ⟨6, _⟩ => ⟨S1x768, .f32⟩
  | .hbm, ⟨7, _⟩ => ⟨S4096x16384, .f32⟩
  | .hbm, ⟨8, _⟩ => ⟨S16384x768, .bf16⟩
  | .hbm, ⟨9, _⟩ => ⟨S4096x768, .f32⟩
  | .local _ .vmem, ⟨0, _⟩ => ⟨S128x768, .f32⟩
  | .local _ .vmem, ⟨1, _⟩ => ⟨S128x768, .f32⟩
  | .local _ .vmem, ⟨2, _⟩ => ⟨S768x2048, .f32⟩
  | .local _ .vmem, ⟨3, _⟩ => ⟨S768x2048, .f32⟩
  | .local _ .vmem, ⟨4, _⟩ => ⟨S1x2048, .f32⟩
  | .local _ .vmem, ⟨5, _⟩ => ⟨S1x2048, .f32⟩
  | .local _ .vmem, ⟨6, _⟩ => ⟨S128x16384, .f32⟩
  | .local _ .vmem, ⟨7, _⟩ => ⟨S128x16384, .f32⟩
  | .local _ .vmem, ⟨8, _⟩ => ⟨S2x128x16384, .f32⟩
  | .local _ .vmem, ⟨9, _⟩ => ⟨S2x128x16384, .i8⟩
  | .local _ .vmem, ⟨10, _⟩ => ⟨S128x1, .i32⟩
  | .local _ .vmem, ⟨11, _⟩ => ⟨S128x16384, .f32⟩
  | .local _ .vmem, ⟨12, _⟩ => ⟨S128x16384, .f32⟩
  | .local _ .vmem, ⟨13, _⟩ => ⟨S16384x768, .bf16⟩
  | .local _ .vmem, ⟨14, _⟩ => ⟨S1x768, .f32⟩
  | .local _ .vmem, ⟨15, _⟩ => ⟨S128x768, .f32⟩
  | .local _ .vmem, ⟨16, _⟩ => ⟨S128x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [BitOps F]

abbrev grid0 : Pipeline.Grid := ⟨2, ![33, 8], ![false, false]⟩

def k0_cond1 (i : grid0.Coords) : BitVec 1 :=
  let arg0 : BitVec 32 := BitVec.ofNat 32 (i 0).val
  let c32_i32 : BitVec 32 := 32#32
  let v21 : BitVec 1 := Scalar.cmpi .slt arg0 c32_i32
  let v22 : BitVec 32 := Scalar.extui v21
  let c0_i32_10 : BitVec 32 := 0#32
  let v23 : BitVec 1 := Scalar.cmpi .ne v22 c0_i32_10
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : Index := Scalar.indexCast v9
  let c0_18 : Index := 0#32
  let arg1 : BitVec 32 := BitVec.ofNat 32 (i 1).val
  let c2048_i32 : BitVec 32 := 2048#32
  let v35 : BitVec 32 := Scalar.muli arg1 c2048_i32
  let v37 : Index := Scalar.indexCast v35
  ![v36.toNat, 0, v37.toNat]
def k0_cond2 (i : grid0.Coords) : BitVec 1 :=
  let arg0 : BitVec 32 := BitVec.ofNat 32 (i 0).val
  let c0_i32_11 : BitVec 32 := 0#32
  let v24 : BitVec 1 := Scalar.cmpi .sgt arg0 c0_i32_11
  let v25 : BitVec 32 := Scalar.extui v24
  let c0_i32_12 : BitVec 32 := 0#32
  let v26 : BitVec 1 := Scalar.cmpi .ne v25 c0_i32_12
  v26

def k0_cond3 (i : grid0.Coords) : BitVec 1 :=
  let arg1 : BitVec 32 := BitVec.ofNat 32 (i 1).val
  let c7_i32 : BitVec 32 := 7#32
  let v31 : BitVec 1 := Scalar.cmpi .slt arg1 c7_i32
  let v32 : BitVec 32 := Scalar.extui v31
  let c0_i32_16 : BitVec 32 := 0#32
  let v33 : BitVec 1 := Scalar.cmpi .ne v32 c0_i32_16
  v33

def k0_off2 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v45 : Index := Scalar.indexCast v20
  let c0_22 : Index := 0#32
  let c0_23 : Index := 0#32
  ![v45.toNat, 0, 0]
def k0_cond4 (i : grid0.Coords) : BitVec 1 :=
  let arg1 : BitVec 32 := BitVec.ofNat 32 (i 1).val
  let c7_i32_17 : BitVec 32 := 7#32
  let v34 : BitVec 1 := Scalar.cmpi .eq arg1 c7_i32_17
  let v35 : BitVec 32 := Scalar.extui v34
  let c0_i32_18 : BitVec 32 := 0#32
  let v36 : BitVec 1 := Scalar.cmpi .ne v35 c0_i32_18
  v36

def k0_off3 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v42 : Index := Scalar.indexCast v20
  let c0_22 : Index := 0#32
  let c0_23 : Index := 0#32
  ![v42.toNat, 0, 0]
@[reducible] def k0_t1_loop : Scf.Loop 32 :=
  let c0_i32_59 : BitVec 32 := 0#32
  let c14_i32 : BitVec 32 := 14#32
  let v125 : BitVec 32 := Scalar.addi c0_i32_59 c14_i32
  let c1_i32_60 : BitVec 32 := 1#32
  ⟨c0_i32_59, v125, c1_i32_60⟩
@[reducible] def k0_t2_loop : Scf.Loop 32 :=
  let c0_i32_64 : BitVec 32 := 0#32
  let c8_i32_65 : BitVec 32 := 8#32
  let v132 : BitVec 32 := Scalar.addi c0_i32_64 c8_i32_65
  let c1_i32_66 : BitVec 32 := 1#32
  ⟨c0_i32_64, v132, c1_i32_66⟩
def k0_off4 (i : grid0.Coords) (k0_t2 : Fin k0_t2_loop.trips) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v137 : Index := Scalar.indexCast v20
  let c0_68 : Index := 0#32
  let c0_i32_64 : BitVec 32 := 0#32
  let c1_i32_66 : BitVec 32 := 1#32
  let arg11 : BitVec 32 := Scf.iv c0_i32_64 c1_i32_66 k0_t2
  let c2048_i32 : BitVec 32 := 2048#32
  let v136 : BitVec 32 := Scalar.muli arg11 c2048_i32
  let v138 : Index := Scalar.indexCast v136
  ![v137.toNat, 0, v138.toNat]
@[reducible] def k0_t3_loop : Scf.Loop 32 :=
  let c0_i32_55 : BitVec 32 := 0#32
  let c8_i32 : BitVec 32 := 8#32
  let v123 : BitVec 32 := Scalar.addi c0_i32_55 c8_i32
  let c1_i32_56 : BitVec 32 := 1#32
  ⟨c0_i32_55, v123, c1_i32_56⟩
def k0_off5 (i : grid0.Coords) (k0_t3 : Fin k0_t3_loop.trips) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v125 : Index := Scalar.indexCast v20
  let c0_58 : Index := 0#32
  let c0_i32_55 : BitVec 32 := 0#32
  let c1_i32_56 : BitVec 32 := 1#32
  let arg9 : BitVec 32 := Scf.iv c0_i32_55 c1_i32_56 k0_t3
  let c2048_i32 : BitVec 32 := 2048#32
  let v124 : BitVec 32 := Scalar.muli arg9 c2048_i32
  let v126 : Index := Scalar.indexCast v124
  ![v125.toNat, 0, v126.toNat]
def k0_off6 (k0_t3 : Fin k0_t3_loop.trips) : Fin 2 → Nat :=
  let c0_64 : Index := 0#32
  let c0_i32_55 : BitVec 32 := 0#32
  let c1_i32_56 : BitVec 32 := 1#32
  let arg9 : BitVec 32 := Scf.iv c0_i32_55 c1_i32_56 k0_t3
  let c2048_i32_63 : BitVec 32 := 2048#32
  let v150 : BitVec 32 := Scalar.muli arg9 c2048_i32_63
  let v151 : Index := Scalar.indexCast v150
  ![0, v151.toNat]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F]
-- ==== ReferenceIdeal.lean ====
abbrev S4096x768 : Shape := ⟨2, ![4096, 768]⟩
abbrev S768x16384 : Shape := ⟨2, ![768, 16384]⟩
abbrev S16384 : Shape := ⟨1, ![16384]⟩
abbrev S16384x768 : Shape := ⟨2, ![16384, 768]⟩
abbrev S768 : Shape := ⟨1, ![768]⟩
abbrev S4096x16384 : Shape := ⟨2, ![4096, 16384]⟩
abbrev S1x16384 : Shape := ⟨2, ![1, 16384]⟩
abbrev S4096x64 : Shape := ⟨2, ![4096, 64]⟩
abbrev S4096 : Shape := ⟨1, ![4096]⟩
abbrev S4096x1 : Shape := ⟨2, ![4096, 1]⟩
abbrev S_ : Shape := ⟨0, ![]⟩
abbrev S4096x64x1 : Shape := ⟨3, ![4096, 64, 1]⟩
abbrev S4096x64x2 : Shape := ⟨3, ![4096, 64, 2]⟩
abbrev S1x768 : Shape := ⟨2, ![1, 768]⟩

abbrev nBuf : Space → Nat
  | .hbm => 42
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x16384, .f32⟩
  | .hbm, ⟨2, _⟩ => ⟨S16384, .f32⟩
  | .hbm, ⟨3, _⟩ => ⟨S16384x768, .f32⟩
  | .hbm, ⟨4, _⟩ => ⟨S768, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S4096x64, .f32⟩
  | .hbm, ⟨11, _⟩ => ⟨S4096x64, .i32⟩
  | .hbm, ⟨12, _⟩ => ⟨S4096, .i32⟩
  | .hbm, ⟨13, _⟩ => ⟨S4096x1, .i32⟩
  | .hbm, ⟨14, _⟩ => ⟨S_, .f32⟩
  | .hbm, ⟨15, _⟩ => ⟨S4096x16384, .f32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x1, .i32⟩
  | .hbm, ⟨23, _⟩ => ⟨S_, .i32⟩
  | .hbm, ⟨24, _⟩ => ⟨S4096x64, .i32⟩
  | .hbm, ⟨25, _⟩ => ⟨S4096x64, .i1⟩
  | .hbm, ⟨26, _⟩ => ⟨S_, .i32⟩
  | .hbm, ⟨27, _⟩ => ⟨S4096x64, .i32⟩
  | .hbm, ⟨28, _⟩ => ⟨S4096x64, .i32⟩
  | .hbm, ⟨29, _⟩ => ⟨S4096x64, .i32⟩
  | .hbm, ⟨30, _⟩ => ⟨S4096x64, .i32⟩
  | .hbm, ⟨31, _⟩ => ⟨S4096x64x1, .i32⟩
  | .hbm, ⟨32, _⟩ => ⟨S4096x64x1, .i32⟩
  | .hbm, ⟨33, _⟩ => ⟨S4096x64x2, .i32⟩
  | .hbm, ⟨34, _⟩ => ⟨S_, .f32⟩
  | .hbm, ⟨35, _⟩ => ⟨S4096x64, .f32⟩
  | .hbm, ⟨36, _⟩ => ⟨S4096x16384, .f32⟩
  | .hbm, ⟨37, _⟩ => ⟨S4096x16384, .f32⟩
  | .hbm, ⟨38, _⟩ => ⟨S4096x768, .f32⟩
  | .hbm, ⟨39, _⟩ => ⟨S1x768, .f32⟩
  | .hbm, ⟨40, _⟩ => ⟨S4096x768, .f32⟩
  | .hbm, ⟨41, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_values : Ref sig .tc := ⟨.hbm, 10, rfl⟩
abbrev main_indices : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Ref.Run.lean ====
/-
  The reference's run: what its two results hold, as functions of the arguments. Generic in the float values.
-/
module

public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Ref

open Cert.ReferenceIdeal
open Idealize.ShloMosaic Idealize.ShloMosaic.TcCoe Idealize.SL.Sem
open Facts₀ Facts

variable {F : FTy → Type} [FloatOps F]

/-- The code before the selection. -/
def codeR (x : FVec F S4096x768 .f32) (w : FVec F S768x16384 .f32) (b : FVec F S16384 .f32) : FVec F S4096x16384 .f32 :=
  addf (Host.dotGeneral dot_S4096x768_S768x16384_S4096x16384_1_0_0_1_n_n none x w)
    (broadcastInDim S4096x16384 ![0, 1] bcast_S1x16384_S4096x16384_0_1 (broadcastInDim S1x16384 ![1] bcast_S16384_S1x16384_1 b))

/-- The columns of a row's 64 largest entries. -/
def topIdx (a : FVec F S4096x16384 .f32) : IVec S4096x64 32 :=
  (Host.topK S4096x64 1 (FloatOps.cmpfTotal .gt) a sliceFits_S4096x16384_S4096x64).2

/-- Row numbers, wrapped as an index into 4096 rows. -/
def rowIdx : IVec S4096x1 32 :=
  let r : IVec S4096x1 32 := broadcastInDim S4096x1 ![0] bcast_S4096_S4096x1_0 (iotaInDim S4096 32 0)
  select (cmpi .slt r (broadcastInDim S4096x1 ![] bcast_S_S4096x1 (constantI S_ 32 0#32)))
    (addi r (broadcastInDim S4096x1 ![] bcast_S_S4096x1 (constantI S_ 32 4096#32))) r

/-- Column numbers, wrapped as an index into 16384 columns. -/
def colIdx (n : IVec S4096x64 32) : IVec S4096x64 32 :=
  select (cmpi .slt n (broadcastInDim S4096x64 ![] bcast_S_S4096x64 (constantI S_ 32 0#32)))
    (addi n (broadcastInDim S4096x64 ![] bcast_S_S4096x64 (constantI S_ 32 16384#32))) n

/-- The (row, column) pairs the mask is set at. -/
def pairIdx (n : IVec S4096x64 32) : IVec S4096x64x2 32 :=
  concatenate S4096x64x2 2 [
    ⟨S4096x64x1, broadcastInDim S4096x64x1 ![0, 1] bcast_S4096x64_S4096x64x1_0_1 (broadcastInDim S4096x64 ![0, 1] bcast_S4096x1_S4096x64_0_1 rowIdx)⟩,
    ⟨S4096x64x1, broadcastInDim S4096x64x1 ![0, 1] bcast_S4096x64_S4096x64x1_0_1 (colIdx n)⟩] concatenates_S4096x64x1_S4096x64x1_S4096x64x2_d2

/-- The mask: 1 at the pairs, 0 elsewhere. -/
def maskR (n : IVec S4096x64 32) : FVec F S4096x16384 .f32 :=
  Host.scatter scatter_S4096x16384_S4096x64x2_S4096x64_n_01_01_2 (fun _ b => b)
    (broadcastInDim S4096x16384 ![] bcast_S_S4096x16384 (constant (F := F) S_ .f32 0x00000000#32)) (pairIdx n)
    (broadcastInDim S4096x64 ![] bcast_S_S4096x64 (constant (F := F) S_ .f32 0x3F800000#32))

/-- The sparse code. -/
def sparseR (x : FVec F S4096x768 .f32) (w : FVec F S768x16384 .f32) (b : FVec F S16384 .f32) : FVec F S4096x16384 .f32 :=
  mulf (codeR x w b) (maskR (topIdx (Host.absf (codeR x w b))))

/-- The reconstruction from a sparse code. -/
def reconR (s : FVec F S4096x16384 .f32) (wd : FVec F S16384x768 .f32) (bd : FVec F S768 .f32) : FVec F S4096x768 .f32 :=
  addf (Host.dotGeneral dot_S4096x16384_S16384x768_S4096x768_1_0_0_1_n_n none s wd)
    (broadcastInDim S4096x768 ![0, 1] bcast_S1x768_S4096x768_0_1 (broadcastInDim S1x768 ![1] bcast_S768_S1x768_1 bd))

variable (m : (ℓ : Loc nD τ sig) → Buf (Elt F) ℓ)

/-- The reference's run, from any memory with every counter at zero. -/
theorem run (ρ : Dev nD → PrngReg) :
    θ_run defs (onTc (τ := τ) (main (F := F))) ⟨m, fun _ => 0, ρ⟩ (fun r => ∀ c : Dev nD,
      r.2.mem ((c.tc : Thread nD τ).loc main_v28) = reconR (sparseR (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4))
      ∧ r.2.mem ((c.tc : Thread nD τ).loc main_v24) = sparseR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  all_goals rfl

end Cert.ReferenceIdeal.Ref
-- ==== Proof.Enc.Val.lean ====
/-
  What the first kernel leaves, as functions of the contents it finds: a slot of the two-slot buffers, a chunk of a
  slot, the search state, the last kept column, the masked block. Generic in the float values.
-/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Tactic
public import Idealize.ShloMosaic.Lib.Pipeline.Value
public import Idealize.ShloMosaic.Lib.Pipeline.ValueKit.Tiles
public import Idealize.ShloMosaic.Lib.Pointwise.Index

@[expose] public section

set_option maxRecDepth 16384

noncomputable section

namespace Cert.KernelIdeal.Enc

open Cert.KernelIdeal Cert.KernelIdeal.Gen
open Idealize.ShloMosaic Idealize.ShloMosaic.TcCoe

variable {F : FTy → Type} [FloatOps F]

/-! ## The conditions and the offsets in closed form -/

/-- A grid point from its two coordinates. -/
def pt (a : Fin 33) (b : Fin 8) : grid0.Coords := fun x => match x with | ⟨0, _⟩ => a | ⟨1, _⟩ => b
/-- Every grid point is one. -/
theorem eq_pt (i : grid0.Coords) : i = pt (i 0) (i 1) := by
  funext x; match x with | ⟨0, _⟩ => rfl | ⟨1, _⟩ => rfl

/-- The column search has 14 trips. -/
theorem trips1 : k0_t1_loop.trips = 14 := by decide +kernel
/-- A count of ties has 8 trips. -/
theorem trips2 : k0_t2_loop.trips = 8 := by decide +kernel
/-- The mask is applied in 8 trips. -/
theorem trips3 : k0_t3_loop.trips = 8 := by decide +kernel

/-- The product runs in every row but the last. -/
theorem cond1_pt : ∀ (a : Fin 33) (b : Fin 8), k0_cond1 (pt a b) = 1#1 ↔ a.val < 32 := by decide +kernel
/-- The selection runs in every row but the first. -/
theorem cond2_pt : ∀ (a : Fin 33) (b : Fin 8), k0_cond2 (pt a b) = 1#1 ↔ 0 < a.val := by decide +kernel
/-- Four bits are searched at every column but the last. -/
theorem cond3_pt : ∀ (a : Fin 33) (b : Fin 8), k0_cond3 (pt a b) = 1#1 ↔ b.val < 7 := by decide +kernel
/-- The mask is made at the last column. -/
theorem cond4_pt : ∀ (a : Fin 33) (b : Fin 8), k0_cond4 (pt a b) = 1#1 ↔ b.val = 7 := by decide +kernel
/-- The first stage runs at the points before the last row. -/
theorem cond1_iff (i : grid0.Coords) : k0_cond1 i = 1#1 ↔ (i 0).val < 32 := by
  rw [eq_pt i]; exact cond1_pt _ _
/-- The second stage runs at the points after the first row. -/
theorem cond2_iff (i : grid0.Coords) : k0_cond2 i = 1#1 ↔ 0 < (i 0).val := by
  rw [eq_pt i]; exact cond2_pt _ _
/-- Four bits of the search are decided at the first seven columns. -/
theorem cond3_iff (i : grid0.Coords) : k0_cond3 i = 1#1 ↔ (i 1).val < 7 := by
  rw [eq_pt i]; exact cond3_pt _ _
/-- The block is written at the last column. -/
theorem cond4_iff (i : grid0.Coords) : k0_cond4 i = 1#1 ↔ (i 1).val = 7 := by
  rw [eq_pt i]; exact cond4_pt _ _

/-- The product is stored at its columns of its row's slot. -/
theorem off1_pt : ∀ (a : Fin 33) (b : Fin 8), k0_off1 (pt a b) = ![a.val % 2, 0, 2048 * b.val] := by decide +kernel
/-- The search reads the other slot. -/
theorem off2_pt : ∀ (a : Fin 33) (b : Fin 8), k0_off2 (pt a b) = ![(a.val + 1) % 2, 0, 0] := by decide +kernel
/-- So does the end of the search. -/
theorem off3_pt : ∀ (a : Fin 33) (b : Fin 8), k0_off3 (pt a b) = ![(a.val + 1) % 2, 0, 0] := by decide +kernel
/-- The count of ties reads a chunk of the other slot. -/
theorem off4_pt : ∀ (a : Fin 33) (b : Fin 8) (k : Fin k0_t2_loop.trips), k0_off4 (pt a b) k = ![(a.val + 1) % 2, 0, 2048 * k.val] := by decide +kernel
/-- So does the mask. -/
theorem off5_pt : ∀ (a : Fin 33) (b : Fin 8) (k : Fin k0_t3_loop.trips), k0_off5 (pt a b) k = ![(a.val + 1) % 2, 0, 2048 * k.val] := by decide +kernel
/-- The same at any coordinates. -/
theorem off1_eq (i : grid0.Coords) : k0_off1 i = ![(i 0).val % 2, 0, 2048 * (i 1).val] := by
  rw [eq_pt i]; exact off1_pt _ _
/-- The same at any coordinates. -/
theorem off2_eq (i : grid0.Coords) : k0_off2 i = ![((i 0).val + 1) % 2, 0, 0] := by
  rw [eq_pt i]; exact off2_pt _ _
/-- The same at any coordinates. -/
theorem off3_eq (i : grid0.Coords) : k0_off3 i = ![((i 0).val + 1) % 2, 0, 0] := by
  rw [eq_pt i]; exact off3_pt _ _
/-- The same at any coordinates. -/
theorem off4_eq (i : grid0.Coords) (k : Fin k0_t2_loop.trips) : k0_off4 i k = ![((i 0).val + 1) % 2, 0, 2048 * k.val] := by
  rw [eq_pt i]; exact off4_pt _ _ _
/-- The same at any coordinates. -/
theorem off5_eq (i : grid0.Coords) (k : Fin k0_t3_loop.trips) : k0_off5 i k = ![((i 0).val + 1) % 2, 0, 2048 * k.val] := by
  rw [eq_pt i]; exact off5_pt _ _ _

/-! ## Slots and chunks -/

/-- The slot a point's second stage reads. -/
def prev (i : grid0.Coords) : Fin 2 := ⟨((i 0).val + 1) % 2, Nat.mod_lt _ (by decide)⟩
/-- The slot a point's first stage writes. -/
def cur (i : grid0.Coords) : Fin 2 := ⟨(i 0).val % 2, Nat.mod_lt _ (by decide)⟩

/-- Slot `p` of a two-slot buffer. -/
def slot {e : EltTy} (p : Fin 2) (A : Vec F S2x128x16384 e) : Vec F S1x128x16384 e :=
  fun y => A (ix3 (n0 := 2) (n1 := 128) (n2 := 16384) p (y 1) (y 2))

/-- The `k`-th 2048 columns of a slot. -/
def chunk {e : EltTy} (k : Fin 8) (A : Vec F S1x128x16384 e) : Vec F S1x128x2048 e :=
  fun y => A (ix3 (n0 := 1) (n1 := 128) (n2 := 16384) 0 (y 1)
    ⟨2048 * k.val + (y 2).val, by have h : (y 2).val < 2048 := (y 2).isLt; have := k.isLt; omega⟩)

/-- What the search loads is the other slot. -/
theorem ld_slot2 {e : EltTy} (i : grid0.Coords) (A : Vec F S2x128x16384 e) (inb) :
    View.ld A (Rect.unit (s := S2x128x16384) (k0_off2 i) S1x128x16384.size inb) = slot (prev i) A := by
  funext y
  refine View.ld_unit_apply_of A _ _ _ y _ fun a => ?_
  refine Eq.trans ?_ (congrArg (· + (y a).val) (congrFun (off2_eq i) a).symm)
  have h0 : (y 0).val < 1 := (y 0).isLt
  match a with
  | ⟨0, _⟩ => show ((i 0).val + 1) % 2 = ((i 0).val + 1) % 2 + (y 0).val; omega
  | ⟨1, _⟩ => show (y 1).val = 0 + (y 1).val; omega
  | ⟨2, _⟩ => show (y 2).val = 0 + (y 2).val; omega

/-- What its end loads is the other slot. -/
theorem ld_slot3 {e : EltTy} (i : grid0.Coords) (A : Vec F S2x128x16384 e) (inb) :
    View.ld A (Rect.unit (s := S2x128x16384) (k0_off3 i) S1x128x16384.size inb) = slot (prev i) A := by
  funext y
  refine View.ld_unit_apply_of A _ _ _ y _ fun a => ?_
  refine Eq.trans ?_ (congrArg (· + (y a).val) (congrFun (off3_eq i) a).symm)
  have h0 : (y 0).val < 1 := (y 0).isLt
  match a with
  | ⟨0, _⟩ => show ((i 0).val + 1) % 2 = ((i 0).val + 1) % 2 + (y 0).val; omega
  | ⟨1, _⟩ => show (y 1).val = 0 + (y 1).val; omega
  | ⟨2, _⟩ => show (y 2).val = 0 + (y 2).val; omega

/-- What the count of ties loads is a chunk of the other slot. -/
theorem ld_chunk4 {e : EltTy} (i : grid0.Coords) (k : Fin k0_t2_loop.trips) (A : Vec F S2x128x16384 e) (inb) :
    View.ld A (Rect.unit (s := S2x128x16384) (k0_off4 i k) S1x128x2048.size inb) = chunk (k.cast trips2) (slot (prev i) A) := by
  funext y
  refine View.ld_unit_apply_of A _ _ _ y _ fun a => ?_
  refine Eq.trans ?_ (congrArg (· + (y a).val) (congrFun (off4_eq i k) a).symm)
  have h0 : (y 0).val < 1 := (y 0).isLt
  match a with
  | ⟨0, _⟩ => show ((i 0).val + 1) % 2 = ((i 0).val + 1) % 2 + (y 0).val; omega
  | ⟨1, _⟩ => show (y 1).val = 0 + (y 1).val; omega
  | ⟨2, _⟩ => rfl

/-- What the mask loads is a chunk of the other slot. -/
theorem ld_chunk5 {e : EltTy} (i : grid0.Coords) (k : Fin k0_t3_loop.trips) (A : Vec F S2x128x16384 e) (inb) :
    View.ld A (Rect.unit (s := S2x128x16384) (k0_off5 i k) S1x128x2048.size inb) = chunk (k.cast trips3) (slot (prev i) A) := by
  funext y
  refine View.ld_unit_apply_of A _ _ _ y _ fun a => ?_
  refine Eq.trans ?_ (congrArg (· + (y a).val) (congrFun (off5_eq i k) a).symm)
  have h0 : (y 0).val < 1 := (y 0).isLt
  match a with
  | ⟨0, _⟩ => show ((i 0).val + 1) % 2 = ((i 0).val + 1) % 2 + (y 0).val; omega
  | ⟨1, _⟩ => show (y 1).val = 0 + (y 1).val; omega
  | ⟨2, _⟩ => rfl

/-! ## The values of the second stage -/

/-- The search state after the four bits of one column. -/
def step (i : grid0.Coords) (A : Vec F S1x128x16384 .f32) (p : IVec S128x1 32) : IVec S128x1 32 :=
  let arg1 : BitVec 32 := BitVec.ofNat 32 (i 1).val
  let v61 : BitVec 32 := Scalar.subi (Scalar.subi 30#32 (Scalar.muli 4#32 arg1)) 1#32
  let v105 : BitVec 32 := Scalar.subi (Scalar.subi 30#32 (Scalar.muli 4#32 arg1)) 3#32
  let v30 := k0_pay4 (F := F) i p
  let v58 := k0_pay13 (F := F) arg1 v30 A
  let v65 := k0_pay14 (F := F) arg1 v30 A
  let v76 := k0_pay15 (F := F) arg1 v30 A A
  k0_pay5 (k0_pay16 (F := F) arg1 v58 v61 v65 v76 0#32 A) v105 (k0_pay17 (F := F) arg1 v58 v61 v65 v76 0#32 A) (k0_pay18 (F := F) arg1 v58 v61 v65 v76 0#32 A A)

/-- The search state after bits 2 and 1. -/
def last2 (i : grid0.Coords) (A : Vec F S1x128x16384 .f32) (p : IVec S128x1 32) : IVec S128x1 32 :=
  k0_pay19 (F := F) (k0_pay4 (F := F) i p) A A

/-- The threshold each row's search ends at. -/
def thr (i : grid0.Coords) (A : Vec F S1x128x16384 .f32) (p : IVec S128x1 32) : FVec F S128x1 .f32 :=
  k0_pay20 (F := F) (last2 i A p) (Scalar.maxsi 0#32 0#32) 1#32 A

/-- How many of the entries at the threshold each row keeps. -/
def need (i : grid0.Coords) (A : Vec F S1x128x16384 .f32) (p : IVec S128x1 32) : IVec S128x1 32 :=
  k0_pay22 (F := F) (last2 i A p) (Scalar.maxsi 0#32 0#32) 1#32 A A

/-- Whether some row has more than 64 entries at or over its threshold. -/
def over (i : grid0.Coords) (A : Vec F S1x128x16384 .f32) (p : IVec S128x1 32) : BitVec 1 :=
  Scalar.cmpi .ne (Scalar.extui (Scalar.cmpf .ogt (k0_pay23 (F := F) (last2 i A p) (Scalar.maxsi 0#32 0#32) 1#32 A A) (Scalar.ofBits (F := F) .f32 0x00000000#32)) : BitVec 32) 0#32

/-- The count of one trial of the column search, after `n` chunks. -/
def cnt (A : Vec F S1x128x16384 .f32) (pf : FVec F S128x1 .f32) (k : Fin k0_t1_loop.trips) (t : IVec S128x1 32) : ℕ → IVec S128x1 32
  | 0 => k0_pay8
  | n + 1 => if h : n < k0_t2_loop.trips then k0_pay9 (F := F) pf k t ⟨n, h⟩ (cnt A pf k t n) (chunk (Fin.cast trips2 ⟨n, h⟩) A) else cnt A pf k t n

/-- The column search after `n` trials. -/
def col (A : Vec F S1x128x16384 .f32) (pf : FVec F S128x1 .f32) (nd : IVec S128x1 32) : ℕ → IVec S128x1 32
  | 0 => k0_pay6
  | n + 1 => if h : n < k0_t1_loop.trips then k0_pay10 nd ⟨n, h⟩ (col A pf nd n) (cnt A pf ⟨n, h⟩ (col A pf nd n) k0_t2_loop.trips) else col A pf nd n

/-- The last column each row keeps at the threshold. -/
def lastCol (i : grid0.Coords) (A : Vec F S1x128x16384 .f32) (p : IVec S128x1 32) : IVec S128x1 32 :=
  if over i A p = 1#1 then col A (thr i A p) (need i A p) k0_t1_loop.trips else k0_pay11

/-- The masked block: from the threshold and the last column kept, chunk by chunk. -/
def masked (A : Vec F S1x128x16384 .f32) (S : Vec F S1x128x16384 .i8) (pf : FVec F S128x1 .f32) (t : IVec S128x1 32) : Vec F S128x16384 .f32 :=
  fun y =>
    have h : (y 1).val < 16384 := (y 1).isLt
    k0_pay12 (F := F) pf t (Fin.cast trips3.symm ⟨(y 1).val / 2048, by omega⟩)
      (chunk ⟨(y 1).val / 2048, by omega⟩ A) (chunk ⟨(y 1).val / 2048, by omega⟩ S)
      (ix2 (n0 := 128) (n1 := 2048) (y 0) ⟨(y 1).val % 2048, Nat.mod_lt _ (by decide)⟩)

/-- What the last column's point writes. -/
def outVal (i : grid0.Coords) (A : Vec F S1x128x16384 .f32) (S : Vec F S1x128x16384 .i8) (p : IVec S128x1 32) : Vec F S128x16384 .f32 :=
  masked A S (thr i A p) (lastCol i A p)

/-! ## The first stage's effect -/

/-- A two-slot buffer after the point's 2048 columns are stored into its slot. -/
def upd {e : EltTy} (i : grid0.Coords) (A : Vec F S2x128x16384 e) (v : Vec F S1x128x2048 e) : Vec F S2x128x16384 e :=
  fun y => if h : (y 0).val = (cur i).val ∧ 2048 * (i 1).val ≤ (y 2).val ∧ (y 2).val < 2048 * (i 1).val + 2048 then
      v (ix3 (n0 := 1) (n1 := 128) (n2 := 2048) 0 (y 1) ⟨(y 2).val - 2048 * (i 1).val, by omega⟩)
    else A y

end Cert.KernelIdeal.Enc
-- ==== Proof.Enc.Stage.lean ====
/-
  The first kernel's body in its two stages.
-/
module

public import proofs.«01_k».proof.Proof.Enc.Val

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's first stage: the products of one block of rows with 2048 columns, into the point's slot. -/
def stage1 (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole) :
    Prog (TpuEff nD τ sig (Elt F) Λ₀ .tc) PUnit := do
  if k0_h1 : k0_cond1 i = 1#1 then do
    let v27 : Vec F S128x768 .f32 ← Prog.lift (.load arg2 (Rect.unit (s := S128x768) ![0, 0] S128x768.size inb_S128x768_S128x768_0_0).toLoadRect (View.loadsAt_vmem h_S128x768))
    let v28 : Vec F S768x2048 .f32 ← Prog.lift (.load arg3 (Rect.unit (s := S768x2048) ![0, 0] S768x2048.size inb_S768x2048_S768x2048_0_0).toLoadRect (View.loadsAt_vmem h_S768x2048))
    let v30 : Vec F S1x2048 .f32 ← Prog.lift (.load arg4 (Rect.unit (s := S1x2048) ![0, 0] S1x2048.size inb_S1x2048_S1x2048_0_0).toLoadRect (View.loadsAt_vmem h_S1x2048))
    let v38 : Vec F S1x128x2048 .f32 ← Prog.lift (.load arg6 (Rect.unit (s := S2x128x16384) (k0_off1 i) S1x128x2048.size (k0_off1_inb i k0_h1)).toLoadRect (View.loadsAt_vmem h_S1x128x2048))
    Prog.lift (.store arg6 (Rect.unit (s := S2x128x16384) (k0_off1 i) S1x128x2048.size (k0_off1_inb i k0_h1)) (k0_pay2 v27 v28 v30) Finset.univ (View.stores_vmem_bits_univ h_S1x128x2048 rfl) (.inl rfl))
    let v55 : Vec F S1x128x2048 .i8 ← Prog.lift (.load arg7 (Rect.unit (s := S2x128x16384) (k0_off1 i) S1x128x2048.size (k0_off1_inb i k0_h1)).toLoadRect (View.loadsAt_vmem h_S1x128x2048))
    Prog.lift (.store arg7 (Rect.unit (s := S2x128x16384) (k0_off1 i) S1x128x2048.size (k0_off1_inb i k0_h1)) (k0_pay3 v27 v28 v30) Finset.univ (View.stores_vmem h_S1x128x2048 (harg7.storeExact_slice rfl _ (k0_off1_packedi8 i k0_h1)) (fun _ => rfl)) (.inl rfl))
    pure ⟨⟩
  else do
    pure ⟨⟩

/-- The kernel's second stage: the search and the masked block, from the other slot. -/
def stage2 (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole) :
    Prog (TpuEff nD τ sig (Elt F) Λ₀ .tc) PUnit := do
  let arg0 : BitVec 32 := BitVec.ofNat 32 (i 0).val
  let arg1 : BitVec 32 := BitVec.ofNat 32 (i 1).val
  let v10 : BitVec 32 := Scalar.addi arg0 1#32
  let v11 : BitVec 1 := Scalar.cmpi .eq 2#32 0#32
  let v12 : BitVec 32 := Scalar.select v11 1#32 2#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  if k0_h2 : k0_cond2 i = 1#1 then do
    let v29 : Vec F S128x1 .i32 ← Prog.lift (.load arg8 (Rect.unit (s := S128x1) ![0, 0] S128x1.size inb_S128x1_S128x1_0_0).toLoadRect (View.loadsAt_vmem h_S128x1))
    if k0_h3 : k0_cond3 i = 1#1 then do
      let ⟨v58, v61, v65, v76, c0_i32_34⟩ : Σ' (v58 : IVec S128x1 32) (v61 : BitVec 32) (v65 : IVec S128x1 32) (v76 : IVec S128x1 1), BitVec 32 ← k0_part1 i arg2 harg2 arg3 harg3 arg4 harg4 arg5 harg5 arg6 harg6 arg7 harg7 arg8 harg8 arg1 v20 k0_h2 (k0_pay4 i v29) k0_h3
      let ⟨v102, v105, v109, v118⟩ : Σ' (v102 : IVec S128x1 32) (v105 : BitVec 32) (v109 : IVec S128x1 32), IVec S128x1 32 ← k0_part2 i arg2 harg2 arg3 harg3 arg4 harg4 arg5 harg5 arg6 harg6 arg7 harg7 arg8 harg8 arg1 v20 k0_h2 k0_h3 v58 v61 v65 v76 c0_i32_34
      let v125 : Vec F S128x1 .i32 ← Prog.lift (.load arg8 (Rect.unit (s := S128x1) ![0, 0] S128x1.size inb_S128x1_S128x1_0_0).toLoadRect (View.loadsAt_vmem h_S128x1))
      Prog.lift (.store arg8 (Rect.unit (s := S128x1) ![0, 0] S128x1.size inb_S128x1_S128x1_0_0) (k0_pay5 v102 v105 v109 v118) Finset.univ (View.stores_vmem_bits_univ h_S128x1 rfl) (.inl rfl))
      pure ⟨⟩
    else do
      pure ⟨⟩
    if k0_h4 : k0_cond4 i = 1#1 then do
      let ⟨v74, v75, c1_i32_37⟩ : Σ' (v74 : IVec S128x1 32) (v75 : BitVec 32), BitVec 32 ← k0_part3 i arg2 harg2 arg3 harg3 arg4 harg4 arg5 harg5 arg6 harg6 arg7 harg7 arg8 harg8 v20 k0_h2 (k0_pay4 i v29) k0_h4
      let ⟨v94, v109, v119⟩ : Σ' (v94 : FVec F S128x1 .f32) (v109 : IVec S128x1 32), BitVec 1 ← k0_part4 i arg2 harg2 arg3 harg3 arg4 harg4 arg5 harg5 arg6 harg6 arg7 harg7 arg8 harg8 v20 k0_h2 k0_h4 v74 v75 c1_i32_37
      let v120 : BitVec 32 := Scalar.extui v119
      let v121 : BitVec 1 := Scalar.cmpi .ne v120 0#32
      let v122 : IVec S128x1 32 ← if v121 = 1#1 then do
          let v126 : IVec S128x1 32 ← Scf.Loop.for k0_t1_loop (k0_t1_ok i k0_h2 k0_h4) k0_pay6 (k0_t1_body i arg2 harg2 arg3 harg3 arg4 harg4 arg5 harg5 arg6 harg6 arg7 harg7 arg8 harg8 k0_h2 k0_h4 v94 v109)
          let c14_i32_61 : BitVec 32 := 14#32
          pure v126
        else do
          pure k0_pay11
      Scf.Loop.for k0_t3_loop (k0_t3_ok i k0_h2 k0_h4) ⟨⟩ (k0_t3_body i arg2 harg2 arg3 harg3 arg4 harg4 arg5 harg5 arg6 harg6 arg7 harg7 arg8 harg8 k0_h2 k0_h4 v94 v122)
      pure ⟨⟩
    else do
      pure ⟨⟩
    pure ⟨⟩
  else do
    pure ⟨⟩
  pure ⟨⟩

/-- The kernel is its two stages, one after the other. -/
theorem skel_split (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)  :
    cc0__encode_topk_kernel_skel (F := F) i arg2 harg2 arg3 harg3 arg4 harg4 arg5 harg5 arg6 harg6 arg7 harg7 arg8 harg8
      = (stage1 (F := F) i arg2 harg2 arg3 harg3 arg4 harg4 arg5 harg5 arg6 harg6 arg7 harg7 arg8 harg8 >>= fun _ =>
          stage2 (F := F) i arg2 harg2 arg3 harg3 arg4 harg4 arg5 harg5 arg6 harg6 arg7 harg7 arg8 harg8) := by
  unfold cc0__encode_topk_kernel_skel stage1
  by_cases h : k0_cond1 i = 1#1
  · simp only [dif_pos h]; rfl
  · simp only [dif_neg h]; rfl

end Cert.KernelIdeal.Enc
-- ==== Proof.Enc.RunA.lean ====
/-
  The first stage alone.
-/
module

public import proofs.«01_k».proof.Proof.Enc.Stage

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Storing a point's 2048 columns into its slot is `upd` on what the buffer reads. -/
theorem read_store1 {e : EltTy} (i : grid0.Coords) (M : Memref sig .tc .vmem S2x128x16384 e) {c : Dev nD}
    (f : Buf (Elt F) (M.view.loc (c : Thread nD τ))) (v : Vec F S1x128x2048 e) (inb) :
    M.view.read (Elt F) (M.view.writes (Elt F) f [⟨Rect.unit (s := S2x128x16384) (k0_off1 i) S1x128x2048.size inb, v⟩])
      = upd i (M.view.read (Elt F) f) v := by
  funext y
  unfold upd
  have e0 : k0_off1 i 0 = (i 0).val % 2 := congrFun (off1_eq i) 0
  have e1 : k0_off1 i 1 = 0 := congrFun (off1_eq i) 1
  have e2 : k0_off1 i 2 = 2048 * (i 1).val := congrFun (off1_eq i) 2
  split
  · rename_i h
    have hy : y = (Rect.unit (s := S2x128x16384) (k0_off1 i) S1x128x2048.size inb).emb
        (ix3 (n0 := 1) (n1 := 128) (n2 := 2048) 0 (y 1) ⟨(y 2).val - 2048 * (i 1).val, by omega⟩) := by
      funext a
      apply Fin.ext
      refine Eq.trans ?_ (Rect.idx_unit_val _ _ _ _ a).symm
      match a with
      | ⟨0, _⟩ => show (y 0).val = k0_off1 i 0 + 0; rw [e0]; exact h.1
      | ⟨1, _⟩ => show (y 1).val = k0_off1 i 1 + (y 1).val; rw [e1]; omega
      | ⟨2, _⟩ => show (y 2).val = k0_off1 i 2 + ((y 2).val - 2048 * (i 1).val); rw [e2]; omega
    conv_lhs => rw [hy]
    rw [View.read_writes_cons_emb]
  · rename_i h
    refine View.read_writes_apply_of_forall_not_mem M.view f y _ fun p hp hm => h ?_
    rw [List.mem_singleton] at hp
    subst hp
    have := (Rect.mem_set_unit (inb := inb)).mp hm
    have a0 := this 0
    have a2 := this 2
    rw [e0] at a0; rw [e2] at a2
    have b0 : (y 0).val < 2 := (y 0).isLt
    refine ⟨?_, a2.1, a2.2⟩
    show (y 0).val = (i 0).val % 2
    have c0 : (i 0).val % 2 ≤ (y 0).val ∧ (y 0).val < (i 0).val % 2 + 1 := a0
    omega

/-- The first stage leaves the slot that the second one reads. -/
theorem slot_upd {e : EltTy} (i : grid0.Coords) (A : Vec F S2x128x16384 e) (v : Vec F S1x128x2048 e) :
    slot (prev i) (upd i A v) = slot (prev i) A := by
  funext y
  refine dif_neg fun h => ?_
  have h0 : ((i 0).val + 1) % 2 = (i 0).val % 2 := h.1
  omega

/-- A store of a whole buffer is what it then reads. -/
theorem read_store_whole {s : Shape} {e : EltTy} (M : Memref sig .tc .vmem s e) {c : Dev nD}
    (f : Buf (Elt F) (M.view.loc (c : Thread nD τ))) {off : Fin s.rank → ℕ} (h : off = fun _ => 0) (inb) (v : Vec F s e) :
    M.view.read (Elt F) (M.view.writes (Elt F) f [⟨Rect.unit (s := s) off s.size inb, v⟩]) = v := by
  subst h
  funext y
  have hy : y = (Rect.unit (s := s) (fun _ => 0) s.size inb).emb y := by
    funext a
    apply Fin.ext
    refine Eq.trans ?_ (Rect.idx_unit_val _ _ _ _ a).symm
    exact (Nat.zero_add _).symm
  conv_lhs => rw [hy]
  rw [View.read_writes_cons_emb]

/-- The start of a whole matrix is at no offset. -/
theorem zero2 : (![0, 0] : Fin 2 → ℕ) = fun _ => 0 := by decide

/-- The first stage's run. -/
theorem runA (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (h1 : k0_cond1 i = 1#1)
    (x : Vec F S128x768 .f32) (w : Vec F S768x2048 .f32) (b : Vec F S1x2048 .f32)
    (A : Vec F S2x128x16384 .f32) (S : Vec F S2x128x16384 .i8)
    (K : PUnit → sProp 𝕄) :
    iprop(owns c arg2 fullShare x ∗ owns c arg3 fullShare w ∗ owns c arg4 fullShare b ∗ owns c arg6 fullShare A ∗ owns c arg7 fullShare S
        ∗ (owns c arg2 fullShare x -∗ owns c arg3 fullShare w -∗ owns c arg4 fullShare b
          -∗ owns c arg6 fullShare (upd i A (k0_pay2 x w b)) -∗ owns c arg7 fullShare (upd i S (k0_pay3 x w b)) -∗ K ⟨⟩))
      ⊢ wp frame (wpE (defs₀ (F := F)) Variants.none c none) Set.univ
          (stage1 i arg2 harg2 arg3 harg3 arg4 harg4 arg5 harg5 arg6 harg6 arg7 harg7 arg8 harg8) K := by
  unfold stage1
  unfold owns
  iintro ⟨⟨%f2, %e2, H2⟩, ⟨%f3, %e3, H3⟩, ⟨%f4, %e4, H4⟩, ⟨%f6, %e6, H6⟩, ⟨%f7, %e7, H7⟩, Hk⟩
  sl_exec (disch := sl_exact h1)
  sl_step
  subst e2 e3 e4 e6 e7
  iapply Hk $$ [H2] [H3] [H4] [H6] [H7]
  · iexists _; isplitr; swap; iexact H2; ipureintro; rfl
  · iexists _; isplitr; swap; iexact H3; ipureintro; rfl
  · iexists _; isplitr; swap; iexact H4; ipureintro; rfl
  · iexists _; isplitr; swap; iexact H6; ipureintro
    refine (read_store1 i arg6 f6 _ _).trans ?_
    simp only [View.readAt_eq_ld]
    rw [View.ld_unit_zero zero2, View.ld_unit_zero zero2, View.ld_unit_zero zero2]
  · iexists _; isplitr; swap; iexact H7; ipureintro
    refine (read_store1 i arg7 f7 _ _).trans ?_
    simp only [View.readAt_eq_ld]
    rw [View.ld_unit_zero zero2, View.ld_unit_zero zero2, View.ld_unit_zero zero2]

end Cert.KernelIdeal.Enc
-- ==== Proof.Enc.Trips.lean ====
/-
  The trips of the first kernel's three loops, as the values of `Val`: the counting loop is `cnt`, the column search is
  `col`, and what the mask loop stores reads as `masked`.
-/
module

public import proofs.«01_k».proof.Proof.Enc.Val

@[expose] public section

set_option maxRecDepth 16384

noncomputable section

namespace Cert.KernelIdeal.Enc

open Cert.KernelIdeal Cert.KernelIdeal.Gen
open Idealize.ShloMosaic Idealize.ShloMosaic.TcCoe Idealize.SL

variable {F : FTy → Type} [FloatOps F]

variable (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (h2 : k0_cond2 i = 1#1) (h4 : k0_cond4 i = 1#1)

/-- One trip of the counting loop adds its chunk's count. -/
theorem trip2_eq (v94 : FVec F S128x1 .f32) (t : Fin k0_t1_loop.trips) (arg10 : IVec S128x1 32)
    (f6 : BufTy.Contents (Elt F) arg6.view.ty) (k : Fin k0_t2_loop.trips) (acc : IVec S128x1 32) :
    tripR_k0_t2 (F := F) Variants.none c none i arg2 harg2 arg3 harg3 arg4 harg4 arg5 harg5 arg6 harg6 arg7 harg7 arg8 harg8 h2 h4 v94 t arg10 f6 k acc
      = k0_pay9 v94 t arg10 k acc (chunk (k.cast trips2) (slot (prev i) (arg6.view.read (Elt F) f6))) := by
  rw [← ld_chunk4 i k (arg6.view.read (Elt F) f6) (k0_off4_inb i k h2 h4)]
  unfold tripR_k0_t2 trip_k0_t2
  rfl

/-- The counting loop. -/
theorem st2_eq (v94 : FVec F S128x1 .f32) (t : Fin k0_t1_loop.trips) (arg10 : IVec S128x1 32)
    (f6 : BufTy.Contents (Elt F) arg6.view.ty) : ∀ n, n ≤ k0_t2_loop.trips →
    st_k0_t2 (F := F) Variants.none c none i arg2 harg2 arg3 harg3 arg4 harg4 arg5 harg5 arg6 harg6 arg7 harg7 arg8 harg8 h2 h4 v94 t arg10 f6 k0_pay8 n
      = cnt (slot (prev i) (arg6.view.read (Elt F) f6)) v94 t arg10 n
  | 0, _ => rfl
  | n + 1, h => by
    have hn : n < k0_t2_loop.trips := h
    refine (st_k0_t2_succ (F := F) Variants.none c none i arg2 harg2 arg3 harg3 arg4 harg4 arg5 harg5 arg6 harg6 arg7 harg7 arg8 harg8 h2 h4 v94 t arg10 f6 k0_pay8 ⟨n, hn⟩).trans ?_
    rw [trip2_eq, st2_eq v94 t arg10 f6 n (Nat.le_of_lt hn), cnt, dif_pos hn]

/-- One trip of the column search. -/
theorem trip1_eq (v94 : FVec F S128x1 .f32) (v109 : IVec S128x1 32)
    (f6 : BufTy.Contents (Elt F) arg6.view.ty) (k : Fin k0_t1_loop.trips) (acc : IVec S128x1 32) :
    tripR_k0_t1 (F := F) Variants.none c none i arg2 harg2 arg3 harg3 arg4 harg4 arg5 harg5 arg6 harg6 arg7 harg7 arg8 harg8 h2 h4 v94 v109 f6 k acc
      = k0_pay10 v109 k acc (cnt (slot (prev i) (arg6.view.read (Elt F) f6)) v94 k acc k0_t2_loop.trips) := by
  rw [← st2_eq c i arg2 harg2 arg3 harg3 arg4 harg4 arg5 harg5 arg6 harg6 arg7 harg7 arg8 harg8 h2 h4 v94 k acc f6 _ le_rfl]
  unfold tripR_k0_t1 trip_k0_t1
  rfl

/-- The column search. -/
theorem st1_eq (v94 : FVec F S128x1 .f32) (v109 : IVec S128x1 32)
    (f6 : BufTy.Contents (Elt F) arg6.view.ty) : ∀ n, n ≤ k0_t1_loop.trips →
    st_k0_t1 (F := F) Variants.none c none i arg2 harg2 arg3 harg3 arg4 harg4 arg5 harg5 arg6 harg6 arg7 harg7 arg8 harg8 h2 h4 v94 v109 f6 k0_pay6 n
      = col (slot (prev i) (arg6.view.read (Elt F) f6)) v94 v109 n
  | 0, _ => rfl
  | n + 1, h => by
    have hn : n < k0_t1_loop.trips := h
    refine (st_k0_t1_succ (F := F) Variants.none c none i arg2 harg2 arg3 harg3 arg4 harg4 arg5 harg5 arg6 harg6 arg7 harg7 arg8 harg8 h2 h4 v94 v109 f6 k0_pay6 ⟨n, hn⟩).trans ?_
    rw [trip1_eq, st1_eq v94 v109 f6 n (Nat.le_of_lt hn), col, dif_pos hn]

/-- One trip of the mask loop stores its chunk of the masked block. -/
theorem trip3_eq (v94 : FVec F S128x1 .f32) (v122 : IVec S128x1 32)
    (f6 : BufTy.Contents (Elt F) arg6.view.ty) (f7 : BufTy.Contents (Elt F) arg7.view.ty) (k : Fin k0_t3_loop.trips) :
    tripL_k0_t3 (F := F) Variants.none c none i arg2 harg2 arg3 harg3 arg4 harg4 arg5 harg5 arg6 harg6 arg7 harg7 arg8 harg8 h2 h4 v94 v122 f6 f7 k
      = [⟨Rect.unit (s := S128x16384) (k0_off6 k) S128x2048.size (k0_off6_inb i k h2 h4),
          k0_pay12 v94 v122 k (chunk (k.cast trips3) (slot (prev i) (arg6.view.read (Elt F) f6)))
            (chunk (k.cast trips3) (slot (prev i) (arg7.view.read (Elt F) f7)))⟩] := by
  rw [← ld_chunk5 i k (arg6.view.read (Elt F) f6) (k0_off5_inb i k h2 h4), ← ld_chunk5 i k (arg7.view.read (Elt F) f7) (k0_off5_inb i k h2 h4)]
  unfold tripL_k0_t3 trip_k0_t3
  rfl

/-- A chunk of the masked block, at an index of the chunk. -/
theorem masked_emb (A : Vec F S1x128x16384 .f32) (S : Vec F S1x128x16384 .i8) (pf : FVec F S128x1 .f32) (t : IVec S128x1 32)
    (k : Fin k0_t3_loop.trips) (inb) (x : S128x2048.Idx) :
    k0_pay12 pf t k (chunk (k.cast trips3) A) (chunk (k.cast trips3) S) x
      = masked A S pf t ((Rect.unit (s := S128x16384) (k0_off6 k) S128x2048.size inb).emb x) := by
  have e1 : k0_off6 k 1 = 2048 * k.val := congrFun (k0_off6_eq k) 1
  have e0 : k0_off6 k 0 = 0 := congrFun (k0_off6_eq k) 0
  have hx1 : (x 1).val < 2048 := (x 1).isLt
  have hk : k.val < 8 := Nat.lt_of_lt_of_eq k.isLt trips3
  have y1 : (((Rect.unit (s := S128x16384) (k0_off6 k) S128x2048.size inb).emb x) 1).val = 2048 * k.val + (x 1).val := by
    refine (Rect.idx_unit_val _ _ _ _ 1).trans ?_
    rw [e1]
  have y0 : (((Rect.unit (s := S128x16384) (k0_off6 k) S128x2048.size inb).emb x) 0).val = (x 0).val := by
    refine (Rect.idx_unit_val _ _ _ _ 0).trans ?_
    rw [e0]; omega
  generalize (Rect.unit (s := S128x16384) (k0_off6 k) S128x2048.size inb).emb x = y at y0 y1
  have hq : (y 1).val / 2048 = k.val := by omega
  have hr : (y 1).val % 2048 = (x 1).val := by omega
  have key : ∀ (k' : Fin 8), k'.val = k.val → ∀ x' : S128x2048.Idx, x' = x →
      k0_pay12 pf t k (chunk (k.cast trips3) A) (chunk (k.cast trips3) S) x
        = k0_pay12 pf t (Fin.cast trips3.symm k') (chunk k' A) (chunk k' S) x' := by
    intro k' hk' x' hx'
    obtain rfl : k' = k.cast trips3 := Fin.ext hk'
    rw [hx']; rfl
  refine key _ hq _ ?_
  funext a
  apply Fin.ext
  match a with
  | ⟨0, _⟩ => exact y0
  | ⟨1, _⟩ => exact hr

/-- After `n` trips, the columns below `2048 n` read as the masked block. -/
theorem pb3_read (v94 : FVec F S128x1 .f32) (v122 : IVec S128x1 32)
    (f6 : BufTy.Contents (Elt F) arg6.view.ty) (f7 : BufTy.Contents (Elt F) arg7.view.ty) (f5 : BufTy.Contents (Elt F) arg5.view.ty) :
    arg5.view.read (Elt F) (arg5.view.writes (Elt F) f5
      (pb_k0_t3 (F := F) Variants.none c none i arg2 harg2 arg3 harg3 arg4 harg4 arg5 harg5 arg6 harg6 arg7 harg7 arg8 harg8 h2 h4 v94 v122 f6 f7 k0_t3_loop.trips))
      = masked (slot (prev i) (arg6.view.read (Elt F) f6)) (slot (prev i) (arg7.view.read (Elt F) f7)) v94 v122 := by
  have key : ∀ n, n ≤ k0_t3_loop.trips →
      (∀ p ∈ pb_k0_t3 (F := F) Variants.none c none i arg2 harg2 arg3 harg3 arg4 harg4 arg5 harg5 arg6 harg6 arg7 harg7 arg8 harg8 h2 h4 v94 v122 f6 f7 n,
        ∀ x : p.1.shape.Idx, p.2 x = masked (slot (prev i) (arg6.view.read (Elt F) f6)) (slot (prev i) (arg7.view.read (Elt F) f7)) v94 v122 (p.1.emb x))
      ∧ ∀ y : S128x16384.Idx, (y 1).val < 2048 * n →
        ∃ p ∈ pb_k0_t3 (F := F) Variants.none c none i arg2 harg2 arg3 harg3 arg4 harg4 arg5 harg5 arg6 harg6 arg7 harg7 arg8 harg8 h2 h4 v94 v122 f6 f7 n, y ∈ p.1.set := by
    intro n
    induction n with
    | zero => exact fun _ => ⟨fun p hp => absurd hp List.not_mem_nil, fun y hy => absurd hy (by omega)⟩
    | succ n ih =>
      intro h
      have hn : n < k0_t3_loop.trips := h
      obtain ⟨ih1, ih2⟩ := ih (Nat.le_of_lt hn)
      rw [pb_k0_t3_succ (F := F) Variants.none c none i arg2 harg2 arg3 harg3 arg4 harg4 arg5 harg5 arg6 harg6 arg7 harg7 arg8 harg8 h2 h4 v94 v122 f6 f7 ⟨n, hn⟩,
        trip3_eq]
      refine ⟨fun p hp => ?_, fun y hy => ?_⟩
      · rcases List.mem_append.mp hp with hp | hp
        · rw [List.mem_singleton] at hp
          subst hp
          exact fun x => masked_emb _ _ _ _ ⟨n, hn⟩ (k0_off6_inb i ⟨n, hn⟩ h2 h4) x
        · exact ih1 p hp
      · by_cases hlt : (y 1).val < 2048 * n
        · obtain ⟨p, hp, hm⟩ := ih2 y hlt
          exact ⟨p, List.mem_append_right _ hp, hm⟩
        · refine ⟨_, List.mem_append_left _ List.mem_cons_self, ?_⟩
          refine (Rect.mem_set_unit (inb := k0_off6_inb i ⟨n, hn⟩ h2 h4)).mpr fun a => ?_
          have e1 : k0_off6 ⟨n, hn⟩ 1 = 2048 * n := congrFun (k0_off6_eq ⟨n, hn⟩) 1
          have e0 : k0_off6 ⟨n, hn⟩ 0 = 0 := congrFun (k0_off6_eq ⟨n, hn⟩) 0
          have b0 : (y 0).val < 128 := (y 0).isLt
          match a with
          | ⟨0, _⟩ => show k0_off6 ⟨n, hn⟩ 0 ≤ (y 0).val ∧ (y 0).val < k0_off6 ⟨n, hn⟩ 0 + 128; rw [e0]; omega
          | ⟨1, _⟩ => show k0_off6 ⟨n, hn⟩ 1 ≤ (y 1).val ∧ (y 1).val < k0_off6 ⟨n, hn⟩ 1 + 2048; rw [e1]; omega
  obtain ⟨k1, k2⟩ := key _ le_rfl
  funext y
  refine View.read_writes_apply_of_pieces arg5.view f5 _ _ k1 y (k2 y ?_)
  have b1 : (y 1).val < 16384 := (y 1).isLt
  have := trips3
  omega

end Cert.KernelIdeal.Enc
-- ==== Proof.Enc.RunD.lean ====
/-
  The second stage alone, four bits of the search.
-/
module

public import proofs.«01_k».proof.Proof.Enc.RunA
public import proofs.«01_k».proof.Proof.Enc.Trips

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The second stage, four bits of the search. -/
theorem runD (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (h2 : k0_cond2 i = 1#1) (h3 : k0_cond3 i = 1#1) (h4 : ¬ k0_cond4 i = 1#1)
    (A : Vec F S2x128x16384 .f32) (S : Vec F S2x128x16384 .i8) (p : Vec F S128x1 .i32)
    (K : PUnit → sProp 𝕄) :
    iprop(owns c arg6 fullShare A ∗ owns c arg7 fullShare S ∗ owns c arg8 fullShare p
        ∗ (owns c arg6 fullShare A -∗ owns c arg7 fullShare S -∗ owns c arg8 fullShare (step i (slot (prev i) A) p) -∗ K ⟨⟩))
      ⊢ wp frame (wpE (defs₀ (F := F)) Variants.none c none) Set.univ
          (stage2 i arg2 harg2 arg3 harg3 arg4 harg4 arg5 harg5 arg6 harg6 arg7 harg7 arg8 harg8) K := by
  unfold stage2
  simp only [k0_part1_eq_skeleton, k0_part2_eq_skeleton]
  unfold owns
  iintro ⟨⟨%f6, %e6, H6⟩, ⟨%f7, %e7, H7⟩, ⟨%f8, %e8, H8⟩, Hk⟩
  sl_exec (disch := first | sl_exact h2 | sl_exact h3 | sl_exact h4)
  subst e6 e7 e8
  sl_step
  iapply Hk $$ [H6] [H7] [H8]
  · iexists _; isplitr; swap; iexact H6; ipureintro
    rfl
  · iexists _; isplitr; swap; iexact H7; ipureintro
    rfl
  · iexists _; isplitr; swap; iexact H8; ipureintro
    refine (read_store_whole arg8 f8 zero2 _ _).trans ?_
    rw [← ld_slot2 i (arg6.view.read (Elt F) f6) (k0_off2_inb i h2 h3)]
    have e8 := View.ld_unit_zero zero2 inb_S128x1_S128x1_0_0 (arg8.view.read (Elt F) f8)
    conv_rhs => rw [← e8]
    sl_unfold_words
    unfold step
    rfl

end Cert.KernelIdeal.Enc
-- ==== Proof.Enc.RunE.lean ====
/-
  The second stage alone, at the last column.
-/
module

public import proofs.«01_k».proof.Proof.Enc.RunA
public import proofs.«01_k».proof.Proof.Enc.Trips

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The second stage at the last column. -/
theorem runE (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (h2 : k0_cond2 i = 1#1) (h3 : ¬ k0_cond3 i = 1#1) (h4 : k0_cond4 i = 1#1)
    (A : Vec F S2x128x16384 .f32) (S : Vec F S2x128x16384 .i8) (p : Vec F S128x1 .i32) (o : Vec F S128x16384 .f32)
    (K : PUnit → sProp 𝕄) :
    iprop(owns c arg5 fullShare o ∗ owns c arg6 fullShare A ∗ owns c arg7 fullShare S ∗ owns c arg8 fullShare p
        ∗ (owns c arg5 fullShare (outVal i (slot (prev i) A) (slot (prev i) S) p) -∗ owns c arg6 fullShare A -∗ owns c arg7 fullShare S -∗ owns c arg8 fullShare p -∗ K ⟨⟩))
      ⊢ wp frame (wpE (defs₀ (F := F)) Variants.none c none) Set.univ
          (stage2 i arg2 harg2 arg3 harg3 arg4 harg4 arg5 harg5 arg6 harg6 arg7 harg7 arg8 harg8) K := by
  unfold stage2
  simp only [k0_part3_eq_skeleton, k0_part4_eq_skeleton]
  unfold owns
  iintro ⟨⟨%f5, %e5, H5⟩, ⟨%f6, %e6, H6⟩, ⟨%f7, %e7, H7⟩, ⟨%f8, %e8, H8⟩, Hk⟩
  sl_exec (disch := first | sl_exact h2 | sl_exact h3 | sl_exact h4)
  subst e5 e6 e7 e8
  have eA := ld_slot3 i (arg6.view.read (Elt F) f6) (k0_off3_inb i h2 h4)
  have e8 := View.ld_unit_zero zero2 inb_S128x1_S128x1_0_0 (arg8.view.read (Elt F) f8)
  have ht : runE.sl.r_1 c i arg6 arg8 h2 h4 f6 f8 = thr i (slot (prev i) (arg6.view.read (Elt F) f6)) (arg8.view.read (Elt F) f8) := by
    rw [← eA]
    conv_rhs => rw [← e8]
    sl_unfold_words
    unfold thr last2
    rfl
  have hn : runE.sl.r_2 c i arg6 arg8 h2 h4 f6 f8 = need i (slot (prev i) (arg6.view.read (Elt F) f6)) (arg8.view.read (Elt F) f8) := by
    rw [← eA]
    conv_rhs => rw [← e8]
    sl_unfold_words
    unfold need last2
    rfl
  have hv : Scalar.cmpi CmpIPredicate.ne (Scalar.extui (runE.sl.v119 c i arg6 arg8 h2 h4 f6 f8)) 0#32 = over i (slot (prev i) (arg6.view.read (Elt F) f6)) (arg8.view.read (Elt F) f8) := by
    rw [← eA]
    conv_rhs => rw [← e8]
    sl_unfold_words
    unfold over last2
    rfl
  rw [hv, ht, hn]
  by_cases ho : over i (slot (prev i) (arg6.view.read (Elt F) f6)) (arg8.view.read (Elt F) f8) = 1#1
  · rw [if_pos ho]
    sl_exec
    sl_step
    iapply Hk $$ [H5] [H6] [H7] [H8]
    · iexists _; isplitr; swap; iexact H5; ipureintro
      refine (pb3_read (F := F) c i arg2 harg2 arg3 harg3 arg4 harg4 arg5 harg5 arg6 harg6 arg7 harg7 arg8 harg8 h2 h4 _ _ f6 f7 f5).trans ?_
      unfold outVal lastCol
      rw [if_pos ho]
      exact congrArg _ (st1_eq (F := F) c i arg2 harg2 arg3 harg3 arg4 harg4 arg5 harg5 arg6 harg6 arg7 harg7 arg8 harg8 h2 h4 _ _ f6 k0_t1_loop.trips le_rfl)
    · iexists _; isplitr; swap; iexact H6; ipureintro; rfl
    · iexists _; isplitr; swap; iexact H7; ipureintro; rfl
    · iexists _; isplitr; swap; iexact H8; ipureintro; rfl
  · rw [if_neg ho]
    sl_exec
    sl_step
    iapply Hk $$ [H5] [H6] [H7] [H8]
    · iexists _; isplitr; swap; iexact H5; ipureintro
      refine (pb3_read (F := F) c i arg2 harg2 arg3 harg3 arg4 harg4 arg5 harg5 arg6 harg6 arg7 harg7 arg8 harg8 h2 h4 _ _ f6 f7 f5).trans ?_
      unfold outVal lastCol
      rw [if_neg ho]
    · iexists _; isplitr; swap; iexact H6; ipureintro; rfl
    · iexists _; isplitr; swap; iexact H7; ipureintro; rfl
    · iexists _; isplitr; swap; iexact H8; ipureintro; rfl

end Cert.KernelIdeal.Enc
-- ==== Proof.Enc.Run.lean ====
/-
  The first kernel's body at every point: what it leaves in the two-slot buffers, the search state and the output block.
-/
module

public import proofs.«01_k».proof.Proof.Enc.RunD
public import proofs.«01_k».proof.Proof.Enc.RunE

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The magnitudes after a point. -/
def newA (i : grid0.Coords) (x : Vec F S128x768 .f32) (w : Vec F S768x2048 .f32) (b : Vec F S1x2048 .f32) (A : Vec F S2x128x16384 .f32) : Vec F S2x128x16384 .f32 :=
  if k0_cond1 i = 1#1 then upd i A (k0_pay2 x w b) else A
/-- The signs after a point. -/
def newS (i : grid0.Coords) (x : Vec F S128x768 .f32) (w : Vec F S768x2048 .f32) (b : Vec F S1x2048 .f32) (S : Vec F S2x128x16384 .i8) : Vec F S2x128x16384 .i8 :=
  if k0_cond1 i = 1#1 then upd i S (k0_pay3 x w b) else S
/-- The search state after a point. -/
def newP (i : grid0.Coords) (A : Vec F S2x128x16384 .f32) (p : Vec F S128x1 .i32) : Vec F S128x1 .i32 :=
  if k0_cond2 i = 1#1 ∧ k0_cond3 i = 1#1 then step i (slot (prev i) A) p else p
/-- The output block after a point. -/
def newO (i : grid0.Coords) (A : Vec F S2x128x16384 .f32) (S : Vec F S2x128x16384 .i8) (p : Vec F S128x1 .i32) (o : Vec F S128x16384 .f32) : Vec F S128x16384 .f32 :=
  if k0_cond2 i = 1#1 ∧ k0_cond4 i = 1#1 then outVal i (slot (prev i) A) (slot (prev i) S) p else o

/-- Filling one slot of the magnitudes leaves the other. -/
theorem slot_newA (i : grid0.Coords) (x : Vec F S128x768 .f32) (w : Vec F S768x2048 .f32) (b : Vec F S1x2048 .f32) (A : Vec F S2x128x16384 .f32) :
    slot (prev i) (newA i x w b A) = slot (prev i) A := by
  unfold newA; split
  · exact slot_upd _ _ _
  · rfl
/-- Filling one slot of the signs leaves the other. -/
theorem slot_newS (i : grid0.Coords) (x : Vec F S128x768 .f32) (w : Vec F S768x2048 .f32) (b : Vec F S1x2048 .f32) (A : Vec F S2x128x16384 .i8) :
    slot (prev i) (newS i x w b A) = slot (prev i) A := by
  unfold newS; split
  · exact slot_upd _ _ _
  · rfl

/-- The second stage's run. -/
theorem run2 (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (A : Vec F S2x128x16384 .f32) (S : Vec F S2x128x16384 .i8) (p : Vec F S128x1 .i32) (o : Vec F S128x16384 .f32)
    (K : PUnit → sProp 𝕄) :
    iprop(owns c arg5 fullShare o ∗ owns c arg6 fullShare A ∗ owns c arg7 fullShare S ∗ owns c arg8 fullShare p
        ∗ (owns c arg5 fullShare (newO i A S p o) -∗ owns c arg6 fullShare A -∗ owns c arg7 fullShare S -∗ owns c arg8 fullShare (newP i A p) -∗ K ⟨⟩))
      ⊢ wp frame (wpE (defs₀ (F := F)) Variants.none c none) Set.univ
          (stage2 i arg2 harg2 arg3 harg3 arg4 harg4 arg5 harg5 arg6 harg6 arg7 harg7 arg8 harg8) K := by
  by_cases h2 : k0_cond2 i = 1#1
  · by_cases h3 : k0_cond3 i = 1#1
    · have h4 : ¬ k0_cond4 i = 1#1 := by rw [cond4_iff]; rw [cond3_iff] at h3; omega
      refine .trans ?_ (runD c i arg2 harg2 arg3 harg3 arg4 harg4 arg5 harg5 arg6 harg6 arg7 harg7 arg8 harg8 h2 h3 h4 A S p K)
      unfold newO newP
      rw [if_neg (fun h => h4 h.2), if_pos ⟨h2, h3⟩]
      iintro ⟨H5, H6, H7, H8, Hk⟩
      isplitl [H6]; · iexact H6
      isplitl [H7]; · iexact H7
      isplitl [H8]; · iexact H8
      iintro G6 G7 G8
      iapply Hk $$ H5 G6 G7 G8
    · have h4 : k0_cond4 i = 1#1 := by
        have hb : (i 1).val < 8 := (i 1).isLt
        rw [cond4_iff]; rw [cond3_iff] at h3; omega
      refine .trans ?_ (runE c i arg2 harg2 arg3 harg3 arg4 harg4 arg5 harg5 arg6 harg6 arg7 harg7 arg8 harg8 h2 h3 h4 A S p o K)
      unfold newO newP
      rw [if_pos ⟨h2, h4⟩, if_neg (fun h => h3 h.2)]
  · have hs : stage2 (F := F) i arg2 harg2 arg3 harg3 arg4 harg4 arg5 harg5 arg6 harg6 arg7 harg7 arg8 harg8 = Prog.ret ⟨⟩ := by
      unfold stage2; simp only [dif_neg h2]; rfl
    rw [hs]
    unfold newO newP
    rw [if_neg (fun h => h2 h.1), if_neg (fun h => h2 h.1)]
    iintro ⟨H5, H6, H7, H8, Hk⟩
    sl_step
    iapply Hk $$ H5 H6 H7 H8

/-- The first stage's run, at every point. -/
theorem run1 (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (x : Vec F S128x768 .f32) (w : Vec F S768x2048 .f32) (b : Vec F S1x2048 .f32)
    (A : Vec F S2x128x16384 .f32) (S : Vec F S2x128x16384 .i8)
    (K : PUnit → sProp 𝕄) :
    iprop(owns c arg2 fullShare x ∗ owns c arg3 fullShare w ∗ owns c arg4 fullShare b ∗ owns c arg6 fullShare A ∗ owns c arg7 fullShare S
        ∗ (owns c arg2 fullShare x -∗ owns c arg3 fullShare w -∗ owns c arg4 fullShare b
          -∗ owns c arg6 fullShare (newA i x w b A) -∗ owns c arg7 fullShare (newS i x w b S) -∗ K ⟨⟩))
      ⊢ wp frame (wpE (defs₀ (F := F)) Variants.none c none) Set.univ
          (stage1 i arg2 harg2 arg3 harg3 arg4 harg4 arg5 harg5 arg6 harg6 arg7 harg7 arg8 harg8) K := by
  unfold newA newS
  by_cases h1 : k0_cond1 i = 1#1
  · rw [if_pos h1, if_pos h1]
    exact runA c i arg2 harg2 arg3 harg3 arg4 harg4 arg5 harg5 arg6 harg6 arg7 harg7 arg8 harg8 h1 x w b A S K
  · have hs : stage1 (F := F) i arg2 harg2 arg3 harg3 arg4 harg4 arg5 harg5 arg6 harg6 arg7 harg7 arg8 harg8 = Prog.ret ⟨⟩ := by
      unfold stage1; simp only [dif_neg h1]; rfl
    rw [hs, if_neg h1, if_neg h1]
    iintro ⟨H2, H3, H4, H6, H7, Hk⟩
    sl_step
    iapply Hk $$ H2 H3 H4 H6 H7

/-- The kernel body's run, at every point. -/
theorem run (c : Dev nD) (i : grid0.Coords) (arg2 : Memref sig .tc .vmem S128x768 .f32) (harg2 : arg2.IsWhole) (arg3 : Memref sig .tc .vmem S768x2048 .f32) (harg3 : arg3.IsWhole) (arg4 : Memref sig .tc .vmem S1x2048 .f32) (harg4 : arg4.IsWhole) (arg5 : Memref sig .tc .vmem S128x16384 .f32) (harg5 : arg5.IsWhole) (arg6 : Memref sig .tc .vmem S2x128x16384 .f32) (harg6 : arg6.IsWhole) (arg7 : Memref sig .tc .vmem S2x128x16384 .i8) (harg7 : arg7.IsWhole) (arg8 : Memref sig .tc .vmem S128x1 .i32) (harg8 : arg8.IsWhole)
    (x : Vec F S128x768 .f32) (w : Vec F S768x2048 .f32) (b : Vec F S1x2048 .f32)
    (A : Vec F S2x128x16384 .f32) (S : Vec F S2x128x16384 .i8) (p : Vec F S128x1 .i32) (o : Vec F S128x16384 .f32)
    (K : PUnit → sProp 𝕄) :
    iprop(owns c arg2 fullShare x ∗ owns c arg3 fullShare w ∗ owns c arg4 fullShare b ∗ owns c arg5 fullShare o
        ∗ owns c arg6 fullShare A ∗ owns c arg7 fullShare S ∗ owns c arg8 fullShare p
        ∗ (owns c arg2 fullShare x -∗ owns c arg3 fullShare w -∗ owns c arg4 fullShare b -∗ owns c arg5 fullShare (newO i A S p o)
          -∗ owns c arg6 fullShare (newA i x w b A) -∗ owns c arg7 fullShare (newS i x w b S) -∗ owns c arg8 fullShare (newP i A p) -∗ K ⟨⟩))
      ⊢ wp frame (wpE (defs₀ (F := F)) Variants.none c none) Set.univ
          (cc0__encode_topk_kernel i arg2 harg2 arg3 harg3 arg4 harg4 arg5 harg5 arg6 harg6 arg7 harg7 arg8 harg8) K := by
  rw [cc0__encode_topk_kernel_eq_skeleton, skel_split, wp_bind]
  refine .trans ?_ (run1 c i arg2 harg2 arg3 harg3 arg4 harg4 arg5 harg5 arg6 harg6 arg7 harg7 arg8 harg8 x w b A S _)
  have hP : newP i (newA i x w b A) p = newP i A p := by unfold newP; rw [slot_newA]
  have hO : newO i (newA i x w b A) (newS i x w b S) p o = newO i A S p o := by unfold newO; rw [slot_newA, slot_newS]
  iintro ⟨H2, H3, H4, H5, H6, H7, H8, Hk⟩
  isplitl [H2]; · iexact H2
  isplitl [H3]; · iexact H3
  isplitl [H4]; · iexact H4
  isplitl [H6]; · iexact H6
  isplitl [H7]; · iexact H7
  iintro G2 G3 G4 G6 G7
  iapply (run2 c i arg2 harg2 arg3 harg3 arg4 harg4 arg5 harg5 arg6 harg6 arg7 harg7 arg8 harg8 (newA i x w b A) (newS i x w b S) p o K)
  rw [hP, hO]
  isplitl [H5]; · iexact H5
  isplitl [G6]; · iexact G6
  isplitl [G7]; · iexact G7
  isplitl [H8]; · iexact H8
  iintro G5 J6 J7 G8
  iapply Hk $$ G2 G3 G4 G5 J6 J7 G8

end Cert.KernelIdeal.Enc
-- ==== Proof.Enc.Inv.lean ====
/-
  What the first launch's scratch buffers hold between its points, and what each point makes of it. A point's number is
  `8 q + k`: `q` its row, `k` its column. Stated over the blocks each point is given, whatever they are.
-/
module

public import proofs.«01_k».proof.Proof.Enc.Run

@[expose] public section

set_option maxRecDepth 16384

noncomputable section

namespace Cert.KernelIdeal.Enc

open Cert.KernelIdeal Cert.KernelIdeal.Gen
open Idealize.ShloMosaic Idealize.ShloMosaic.TcCoe

variable {F : FTy → Type} [FloatOps F]
variable (x : Fin 264 → Vec F S128x768 .f32) (w : Fin 264 → Vec F S768x2048 .f32) (b : Fin 264 → Vec F S1x2048 .f32)

/-- The point at row `q`, column `k`. -/
def pn (q : Fin 33) (k : Fin 8) : Fin 264 := ⟨8 * q.val + k.val, by have := q.isLt; have := k.isLt; omega⟩

/-- The column of the point that computes entry `y` of a slot. -/
def colOf (y : S1x128x16384.Idx) : Fin 8 := ⟨(y 2).val / 2048, by have h : (y 2).val < 16384 := (y 2).isLt; omega⟩
/-- Where that entry is in the point's 2048 columns. -/
def inCol (y : S1x128x16384.Idx) : S1x128x2048.Idx :=
  ix3 (n0 := 1) (n1 := 128) (n2 := 2048) 0 (y 1) ⟨(y 2).val % 2048, Nat.mod_lt _ (by decide)⟩

/-- The magnitudes that row `q` of points computes. -/
def magBlk (q : Fin 33) : Vec F S1x128x16384 .f32 := fun y =>
  k0_pay2 (x (pn q (colOf y))) (w (pn q (colOf y))) (b (pn q (colOf y))) (inCol y)
/-- The signs that row `q` of points computes. -/
def sgnBlk (q : Fin 33) : Vec F S1x128x16384 .i8 := fun y =>
  k0_pay3 (x (pn q (colOf y))) (w (pn q (colOf y))) (b (pn q (colOf y))) (inCol y)

/-- The search state of block `q` before column `n` of the points that search it. -/
def pst (q : Fin 32) : ℕ → IVec S128x1 32
  | 0 => fun _ => 0#32
  | n + 1 => if h : n < 8 then step (pt q.succ ⟨n, h⟩) (magBlk x w b q.castSucc) (pst q n) else pst q n

/-- The block of the result that the last of these points writes. -/
def outBlk (q : Fin 32) : Vec F S128x16384 .f32 :=
  outVal (pt q.succ 7) (magBlk x w b q.castSucc) (sgnBlk x w b q.castSucc) (pst x w b q 7)

/-- What the scratch buffers hold before point `n`. -/
def Inv (n : ℕ) (A : Vec F S2x128x16384 .f32) (S : Vec F S2x128x16384 .i8) (P : Vec F S128x1 .i32) : Prop :=
  (∀ q : Fin 33, q.val = n / 8 → q.val < 32 → ∀ y : S2x128x16384.Idx, (y 0).val = q.val % 2 → (y 2).val < 2048 * (n % 8) →
    A y = magBlk x w b q (ix3 (n0 := 1) (n1 := 128) (n2 := 16384) 0 (y 1) (y 2))
      ∧ S y = sgnBlk x w b q (ix3 (n0 := 1) (n1 := 128) (n2 := 16384) 0 (y 1) (y 2)))
  ∧ (∀ q : Fin 32, q.val + 1 = n / 8 → slot ⟨q.val % 2, Nat.mod_lt _ (by decide)⟩ A = magBlk x w b q.castSucc
      ∧ slot ⟨q.val % 2, Nat.mod_lt _ (by decide)⟩ S = sgnBlk x w b q.castSucc)
  ∧ (∀ q : Fin 32, q.val + 1 = n / 8 → 0 < n % 8 → P = pst x w b q (n % 8))

/-- It holds of any contents before the first point. -/
theorem inv_zero (A : Vec F S2x128x16384 .f32) (S : Vec F S2x128x16384 .i8) (P : Vec F S128x1 .i32) : Inv x w b 0 A S P :=
  ⟨fun q _ _ y _ h => absurd h (by omega), fun q h => absurd h (by omega), fun q h => absurd h (by omega)⟩

/-- At the first column the search does not read its state. -/
theorem step_first (i : grid0.Coords) (h : (i 1).val = 0) (A : Vec F S1x128x16384 .f32) (p p' : IVec S128x1 32) :
    step i A p = step i A p' := by
  have h4 : k0_pay4 (F := F) i p = k0_pay4 (F := F) i p' := by
    unfold k0_pay4
    rw [h]
    rfl
  unfold step
  rw [h4]

variable (t : Fin 264) (i : grid0.Coords) (h0 : (i 0).val = t.val / 8) (h1 : (i 1).val = t.val % 8)
include h0 h1

/-- The columns that row `q` of points has computed after point `t`. -/
theorem new_cols {A : Vec F S2x128x16384 .f32} {S : Vec F S2x128x16384 .i8} {P : Vec F S128x1 .i32} (H : Inv x w b t.val A S P)
    (q : Fin 33) (hq : q.val = t.val / 8) (hq32 : q.val < 32) (y : S2x128x16384.Idx) (y0 : (y 0).val = q.val % 2)
    (y2 : (y 2).val < 2048 * (t.val % 8 + 1)) :
    newA i (x t) (w t) (b t) A y = magBlk x w b q (ix3 (n0 := 1) (n1 := 128) (n2 := 16384) 0 (y 1) (y 2))
      ∧ newS i (x t) (w t) (b t) S y = sgnBlk x w b q (ix3 (n0 := 1) (n1 := 128) (n2 := 16384) 0 (y 1) (y 2)) := by
  have hc : k0_cond1 i = 1#1 := (cond1_iff i).mpr (by omega)
  unfold newA newS
  rw [if_pos hc, if_pos hc]
  unfold upd
  have hcur : (cur i).val = (i 0).val % 2 := rfl
  by_cases hlt : (y 2).val < 2048 * (t.val % 8)
  · rw [dif_neg (by rw [h1]; omega), dif_neg (by rw [h1]; omega)]
    exact H.1 q hq hq32 y y0 hlt
  · have hin : (y 0).val = (cur i).val ∧ 2048 * (i 1).val ≤ (y 2).val ∧ (y 2).val < 2048 * (i 1).val + 2048 := by
      rw [hcur, h0, h1]; omega
    rw [dif_pos hin, dif_pos hin]
    have hp : pn q (colOf (ix3 (n0 := 1) (n1 := 128) (n2 := 16384) 0 (y 1) (y 2))) = t := by
      apply Fin.ext
      show 8 * q.val + (y 2).val / 2048 = t.val
      omega
    have hy : inCol (ix3 (n0 := 1) (n1 := 128) (n2 := 16384) 0 (y 1) (y 2))
        = ix3 (n0 := 1) (n1 := 128) (n2 := 2048) 0 (y 1) ⟨(y 2).val - 2048 * (i 1).val, by omega⟩ := by
      unfold inCol
      have : (y 2).val % 2048 = (y 2).val - 2048 * (i 1).val := by omega
      exact congrArg _ (Fin.ext this)
    unfold magBlk sgnBlk
    rw [hp, hy]
    exact ⟨rfl, rfl⟩

omit h1 in
/-- The slot searched in row `q + 1` is the one filled in row `q`. -/
theorem prev_eq (q : Fin 32) (hq : q.val + 1 = t.val / 8) : prev i = ⟨q.val % 2, Nat.mod_lt _ (by decide)⟩ := by
  apply Fin.ext
  show ((i 0).val + 1) % 2 = q.val % 2
  omega

/-- Each point keeps what the scratch buffers are said to hold. -/
theorem inv_succ {A : Vec F S2x128x16384 .f32} {S : Vec F S2x128x16384 .i8} {P : Vec F S128x1 .i32} (H : Inv x w b t.val A S P) :
    Inv x w b (t.val + 1) (newA i (x t) (w t) (b t) A) (newS i (x t) (w t) (b t) S) (newP i A P) := by
  have ht := t.isLt
  refine ⟨fun q hq hq32 y y0 y2 => ?_, fun q hq => ?_, fun q hq hpos => ?_⟩
  · exact new_cols x w b t i h0 h1 H q (by omega) hq32 y y0 (by omega)
  · by_cases h7 : t.val % 8 = 7
    · have hk := fun y : S1x128x16384.Idx => new_cols x w b t i h0 h1 H q.castSucc (by show q.val = _; omega) q.isLt
        (ix3 (n0 := 2) (n1 := 128) (n2 := 16384) ⟨q.val % 2, Nat.mod_lt _ (by decide)⟩ (y 1) (y 2)) rfl
        (by have h : (y 2).val < 16384 := (y 2).isLt; show (y 2).val < _; omega)
      have he : ∀ y : S1x128x16384.Idx, ix3 (n0 := 1) (n1 := 128) (n2 := 16384) 0 (y 1) (y 2) = y := fun y => by
        funext a
        apply Fin.ext
        match a with
        | ⟨0, _⟩ => have h : (y 0).val < 1 := (y 0).isLt; show 0 = (y 0).val; omega
        | ⟨1, _⟩ => rfl
        | ⟨2, _⟩ => rfl
      refine ⟨funext fun y => ?_, funext fun y => ?_⟩
      · exact (hk y).1.trans (congrArg _ (he y))
      · exact (hk y).2.trans (congrArg _ (he y))
    · have hq' : q.val + 1 = t.val / 8 := by omega
      rw [← prev_eq t i h0 q hq', slot_newA, slot_newS, prev_eq t i h0 q hq']
      exact H.2.1 q hq'
  · have hq' : q.val + 1 = t.val / 8 := by omega
    have hn : (t.val + 1) % 8 = t.val % 8 + 1 := by omega
    have hc2 : k0_cond2 i = 1#1 := (cond2_iff i).mpr (by omega)
    have hc3 : k0_cond3 i = 1#1 := (cond3_iff i).mpr (by omega)
    unfold newP
    rw [if_pos ⟨hc2, hc3⟩, prev_eq t i h0 q hq', (H.2.1 q hq').1, hn, pst, dif_pos (by omega)]
    have hi : i = pt q.succ ⟨t.val % 8, by omega⟩ := by
      have e0 : i 0 = q.succ := Fin.ext (by rw [h0]; show _ = q.val + 1; omega)
      have e1 : i 1 = (⟨t.val % 8, by omega⟩ : Fin 8) := Fin.ext h1
      exact (eq_pt i).trans (congrArg₂ pt e0 e1)
    rw [← hi]
    by_cases hz : t.val % 8 = 0
    · exact step_first i (h1.trans hz) _ _ _
    · rw [H.2.2 q hq' (by omega)]

/-- What the last column's point writes. -/
theorem newO_eq {A : Vec F S2x128x16384 .f32} {S : Vec F S2x128x16384 .i8} {P : Vec F S128x1 .i32} (H : Inv x w b t.val A S P)
    (q : Fin 32) (hq : q.val + 1 = t.val / 8) (h7 : t.val % 8 = 7) (o : Vec F S128x16384 .f32) :
    newO i A S P o = outBlk x w b q := by
  have hc2 : k0_cond2 i = 1#1 := (cond2_iff i).mpr (by omega)
  have hc4 : k0_cond4 i = 1#1 := (cond4_iff i).mpr (by omega)
  have hi : i = pt q.succ 7 := by
    have e0 : i 0 = q.succ := Fin.ext (by rw [h0]; show _ = q.val + 1; omega)
    have e1 : i 1 = (7 : Fin 8) := Fin.ext (h1.trans h7)
    exact (eq_pt i).trans (congrArg₂ pt e0 e1)
  unfold newO outBlk
  rw [if_pos ⟨hc2, hc4⟩, prev_eq t i h0 q hq, (H.2.1 q hq).1, (H.2.1 q hq).2, H.2.2 q hq (by omega), h7, hi]

end Cert.KernelIdeal.Enc
-- ==== Proof.Enc.Dat.lean ====
/-
  The first launch's proof data: what each window's buffer holds after each point, what the scratch buffers hold between
  points, and that the body keeps to it.
-/
module

public import proofs.«01_k».proof.Proof.Enc.Inv
public import proofs.«01_k».proof.Proof.Gen.KernelIdeal.Regions
public import proofs.«01_k».proof.Proof.Gen.KernelIdeal.Points
public import Idealize.ShloMosaic.Lib.Pipeline.FrameBody

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (c : Dev nD) (V : (b : Ref sig .tc) → Buf (Elt F) ((c : Thread nD τ).loc b))

/-- The rows of the input that point `t` is given, the encoder's columns and its bias'. -/
def xs (t : Fin 264) : Vec F S128x768 .f32 :=
  ((cfg0.win 0).blk (t : Fin cfg0.N)).view.read (Elt F) (V (Pipeline.arrRef spec0 0))
/-- The encoder's columns that point `t` is given. -/
def ws (t : Fin 264) : Vec F S768x2048 .f32 :=
  ((cfg0.win 1).blk (t : Fin cfg0.N)).view.read (Elt F) (V (Pipeline.arrRef spec0 1))
/-- The encoder's bias at the columns that point `t` is given. -/
def bs (t : Fin 264) : Vec F S1x2048 .f32 :=
  ((cfg0.win 2).blk (t : Fin cfg0.N)).view.read (Elt F) (V (Pipeline.arrRef spec0 2))

/-- The block of the result whose point is `t`. -/
def blkOf (t : Fin 264) : Fin 32 := ⟨t.val / 8 - 1, by have := t.isLt; omega⟩

/-- A point's row in the grid. -/
theorem coords_row : ∀ t : Fin cfg0.N, ((grid0.coords t) 0).val = t.val / 8 := by decide +kernel
/-- A point's column in the grid. -/
theorem coords_col : ∀ t : Fin cfg0.N, ((grid0.coords t) 1).val = t.val % 8 := by decide +kernel
/-- The result's block is written back only at a last column, after the first row. -/
theorem flush0_3 : ∀ t : Fin cfg0.N, (cfg0.win 3).flush t = true → t.val % 8 = 7 ∧ 8 ≤ t.val := by decide +kernel

/-- The other launch's staging buffers, each at something. -/
def rest6 : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Between points: the scratch buffers at contents of which the invariant holds. -/
def Φ0 (n : ℕ) : sProp 𝕄 :=
  iprop(∃ (A : Vec F S2x128x16384 .f32) (S : Vec F S2x128x16384 .i8) (P : Vec F S128x1 .i32),
    ⌜Inv (xs c V) (ws c V) (bs c V) n A S P⌝ ∗ owns (c : Thread nD τ) (Memref.whole cc0_scratch0) fullShare A ∗ owns (c : Thread nD τ) (Memref.whole cc0_scratch1) fullShare S
      ∗ owns (c : Thread nD τ) (Memref.whole cc0_scratch2) fullShare P ∗ rest6 c)

/-- The first launch's proof data. -/
def dat0 : Dat τ (Elt F) Unit ℕ (UR sig nD τ) ℕ cfg0 c where
  A w := V (Pipeline.arrRef spec0 w)
  after w t := match w with
    | 0 => xs c V t
    | 1 => ws c V t
    | 2 => bs c V t
    | 3 => outBlk (xs c V) (ws c V) (bs c V) (blkOf t)
  Φ n := Φ0 c V n.val
  q _ := fullShare
  owed _ := 0

/-- The arrays are those that the launch is entered with. -/
theorem dat0_A (w : Fin cfg0.W) : (dat0 c V).A w = V (Pipeline.arrRef spec0 w) := by dsimp only [dat0]

/-- Before a point the input's buffer holds the point's rows. -/
theorem before0_0 (t : Fin cfg0.N) (d) : (dat0 c V).before 0 t d = xs c V t :=
  (Dat.before_in_eq_fetched (dat0 c V) 0 rfl (fun _ => rfl) (fun _ _ _ => rfl) (fun _ => rfl) t d).trans rfl
/-- Before a point the encoder's buffer holds the point's columns. -/
theorem before0_1 (t : Fin cfg0.N) (d) : (dat0 c V).before 1 t d = ws c V t :=
  (Dat.before_in_eq_fetched (dat0 c V) 1 rfl (fun _ => rfl) (fun _ _ _ => rfl) (fun _ => rfl) t d).trans rfl
/-- Before a point the bias' buffer holds the point's columns. -/
theorem before0_2 (t : Fin cfg0.N) (d) : (dat0 c V).before 2 t d = bs c V t :=
  (Dat.before_in_eq_fetched (dat0 c V) 2 rfl (fun _ => rfl) (fun _ _ _ => rfl) (fun _ => rfl) t d).trans rfl

/-- The body keeps to the proof data. -/
theorem body0 : BodyObligation (dat0 c V) (defs₀ (F := F)) Variants.none () Set.univ := fun t => by
  rw [bigSep_W0, bigSep_W0]
  rw [show (dat0 c V).Φ t.castSucc = Φ0 c V t.val from rfl, show (dat0 c V).Φ t.succ = Φ0 c V (t.val + 1) from rfl]
  rw [show defs₀ (F := F) .tc cfg0.body (cfg0.bodyArgs t (cfg0.slots t)) = bodyAt0 t from by unfold defs₀; rw [Defs.onTc_tc]]
  unfold Dat.owesAt Pipeline.owesWithin
  rw [show (dat0 c V).owed t.castSucc = 0 from rfl, show (dat0 c V).owed t.succ = 0 from rfl]
  unfold Φ0
  iintro ⟨⟨%A, %S, %P, %hI, HA, HS, HP, Hrest⟩, ⟨%W, %hW, HO⟩, ⟨%d0, H0⟩, ⟨%d1, H1⟩, ⟨%d2, H2⟩, ⟨%d3, H3⟩⟩
  rw [before0_0, before0_1, before0_2]
  have hr := coords_row t
  have hc := coords_col t
  iapply (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (xs c V t) (ws c V t) (bs c V t) A S P ((dat0 c V).before 3 t d3) _)
  isplitl [H0]; · iexact H0
  isplitl [H1]; · iexact H1
  isplitl [H2]; · iexact H2
  isplitl [H3]; · iexact H3
  isplitl [HA]; · iexact HA
  isplitl [HS]; · iexact HS
  isplitl [HP]; · iexact HP
  iintro H0 H1 H2 H3 HA HS HP
  isplitl [HA HS HP Hrest]
  · iexists _, _, _
    isplitr; swap
    · isplitl [HA]; · iexact HA
      isplitl [HS]; · iexact HS
      isplitl [HP]; · iexact HP
      iexact Hrest
    ipureintro
    exact inv_succ (xs c V) (ws c V) (bs c V) t (grid0.coords t) hr hc hI
  isplitl [HO]
  · iexists W; isplitr; · ipureintro; exact fun _ _ => Or.inl trivial
    iexact HO
  isplitl [H0]; · iexact H0
  isplitl [H1]; · iexact H1
  isplitl [H2]; · iexact H2
  by_cases hcond : k0_cond2 (grid0.coords t) = 1#1 ∧ k0_cond4 (grid0.coords t) = 1#1
  · have hidle : cfg0.idle 3 (cfg0.grid.coords t) = false := by
      show (!(k0_cond2 (grid0.coords t) == 1#1 && k0_cond4 (grid0.coords t) == 1#1)) = false
      rw [hcond.1, hcond.2]; rfl
    rw [hidle]
    have h2 := (cond2_iff _).mp hcond.1
    have h4 := (cond4_iff _).mp hcond.2
    have he : newO (grid0.coords t) A S P ((dat0 c V).before 3 t d3) = (dat0 c V).after 3 t :=
      newO_eq (xs c V) (ws c V) (bs c V) t (grid0.coords t) hr hc hI (blkOf t) (by show t.val / 8 - 1 + 1 = t.val / 8; omega) (by omega) _
    rw [← he]
    iexact H3
  · have hidle : cfg0.idle 3 (cfg0.grid.coords t) = true := by
      show (!(k0_cond2 (grid0.coords t) == 1#1 && k0_cond4 (grid0.coords t) == 1#1)) = true
      rw [Bool.not_eq_true', Bool.and_eq_false_iff, beq_eq_false_iff_ne, beq_eq_false_iff_ne]
      tauto
    have hfl : (cfg0.win 3).flush t = false := by
      rw [Bool.eq_false_iff]
      intro hf
      obtain ⟨a, b⟩ := flush0_3 t hf
      exact hcond ⟨(cond2_iff _).mpr (by omega), (cond4_iff _).mpr (by omega)⟩
    rw [hidle, hfl]
    have he : newO (grid0.coords t) A S P ((dat0 c V).before 3 t d3) = (dat0 c V).before 3 t d3 := by
      unfold newO; rw [if_neg hcond]
    rw [he]
    iexists d3
    iexact H3

end Cert.KernelIdeal.Enc
-- ==== Proof.Enc.Dec.lean ====
/-
  The second launch: each point's block of the reconstruction is one product of a block of rows by the whole decoder.
-/
module

public import proofs.«01_k».proof.Proof.Enc.RunA
public import proofs.«01_k».proof.Proof.Gen.KernelIdeal.Regions
public import proofs.«01_k».proof.Proof.Gen.KernelIdeal.Points
public import Idealize.ShloMosaic.Lib.Pipeline.FrameBody

@[expose] public section

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The second kernel's body leaves its product in the result's buffer. -/
theorem runDec (c : Dev nD) (i : grid1.Coords) (arg1 : Memref sig .tc .vmem S128x16384 .f32) (harg1 : arg1.IsWhole) (arg2 : Memref sig .tc .vmem S16384x768 .bf16) (harg2 : arg2.IsWhole) (arg3 : Memref sig .tc .vmem S1x768 .f32) (harg3 : arg3.IsWhole) (arg4 : Memref sig .tc .vmem S128x768 .f32) (harg4 : arg4.IsWhole)
    (z : Vec F S128x16384 .f32) (w : Vec F S16384x768 .bf16) (b : Vec F S1x768 .f32) (o : Vec F S128x768 .f32) (K : PUnit → sProp 𝕄) :
    iprop(owns c arg1 fullShare z ∗ owns c arg2 fullShare w ∗ owns c arg3 fullShare b ∗ owns c arg4 fullShare o
        ∗ (owns c arg1 fullShare z -∗ owns c arg2 fullShare w -∗ owns c arg3 fullShare b -∗ owns c arg4 fullShare (k1_pay1 z w b) -∗ K ⟨⟩))
      ⊢ wp frame (wpE (defs₀ (F := F)) Variants.none c none) Set.univ
          (cc1__decode_kernel i arg1 harg1 arg2 harg2 arg3 harg3 arg4 harg4) K := by
  rw [cc1__decode_kernel_eq_skeleton]
  unfold cc1__decode_kernel_skel
  unfold owns
  iintro ⟨⟨%f1, %e1, H1⟩, ⟨%f2, %e2, H2⟩, ⟨%f3, %e3, H3⟩, ⟨%f4, %e4, H4⟩, Hk⟩
  sl_exec
  sl_step
  subst e1 e2 e3 e4
  iapply Hk $$ [H1] [H2] [H3] [H4]
  · iexists _; isplitr; swap; iexact H1; ipureintro; rfl
  · iexists _; isplitr; swap; iexact H2; ipureintro; rfl
  · iexists _; isplitr; swap; iexact H3; ipureintro; rfl
  · iexists _; isplitr; swap; iexact H4; ipureintro
    refine (read_store_whole _ _ zero2 _ _).trans ?_
    simp only [View.readAt_eq_ld]
    rw [View.ld_unit_zero zero2, View.ld_unit_zero zero2, View.ld_unit_zero zero2]

variable (c : Dev nD) (V : (b : Ref sig .tc) → Buf (Elt F) ((c : Thread nD τ).loc b))

/-- The rows of the sparse code that point `t` is given, the decoder and its bias. -/
def zsB (t : Fin 32) : Vec F S128x16384 .f32 :=
  ((cfg1.win 0).blk (t : Fin cfg1.N)).view.read (Elt F) (V (Pipeline.arrRef spec1 0))
/-- The whole decoder. -/
def wdB (t : Fin 32) : Vec F S16384x768 .bf16 :=
  ((cfg1.win 1).blk (t : Fin cfg1.N)).view.read (Elt F) (V (Pipeline.arrRef spec1 1))
/-- The decoder's bias. -/
def bdB (t : Fin 32) : Vec F S1x768 .f32 :=
  ((cfg1.win 2).blk (t : Fin cfg1.N)).view.read (Elt F) (V (Pipeline.arrRef spec1 2))

/-- The first launch's buffers, each at something. -/
def rest11 : sProp 𝕄 := Pipeline.scopedRest (Ix := Unit) (Name := ℕ) (U := UR sig nD τ) (Lvl := ℕ) (Val := Elt F) spec1 c

/-- The second launch's proof data. -/
def dat1 : Dat τ (Elt F) Unit ℕ (UR sig nD τ) ℕ cfg1 c where
  A w := V (Pipeline.arrRef spec1 w)
  after w t := match w with
    | 0 => zsB c V t
    | 1 => wdB c V t
    | 2 => bdB c V t
    | 3 => k1_pay1 (zsB c V t) (wdB c V t) (bdB c V t)
  Φ _ := rest11 c
  q _ := fullShare
  owed _ := 0

/-- The arrays are those that the launch is entered with. -/
theorem dat1_A (w : Fin cfg1.W) : (dat1 c V).A w = V (Pipeline.arrRef spec1 w) := by dsimp only [dat1]

/-- Before a point the code's buffer holds the point's rows. -/
theorem before1_0 (t : Fin cfg1.N) (d) : (dat1 c V).before 0 t d = zsB c V t :=
  (Dat.before_in_eq_fetched (dat1 c V) 0 rfl (fun _ => rfl) (fun _ _ _ => rfl) (fun _ => rfl) t d).trans rfl
/-- Before a point the decoder's buffer holds the decoder. -/
theorem before1_1 (t : Fin cfg1.N) (d) : (dat1 c V).before 1 t d = wdB c V t :=
  (Dat.before_in_eq_fetched (dat1 c V) 1 rfl (fun _ => rfl) (fun _ _ _ => rfl) (fun _ => rfl) t d).trans rfl
/-- Before a point the bias' buffer holds the bias. -/
theorem before1_2 (t : Fin cfg1.N) (d) : (dat1 c V).before 2 t d = bdB c V t :=
  (Dat.before_in_eq_fetched (dat1 c V) 2 rfl (fun _ => rfl) (fun _ _ _ => rfl) (fun _ => rfl) t d).trans rfl

/-- The body keeps to the proof data. -/
theorem body1 : BodyObligation (dat1 c V) (defs₀ (F := F)) Variants.none () Set.univ := fun t => by
  rw [bigSep_W1, bigSep_W1]
  rw [show (dat1 c V).Φ t.castSucc = rest11 c from rfl, show (dat1 c V).Φ t.succ = rest11 c from rfl]
  rw [show defs₀ (F := F) .tc cfg1.body (cfg1.bodyArgs t (cfg1.slots t)) = bodyAt1 t from by unfold defs₀; rw [Defs.onTc_tc]]
  unfold Dat.owesAt Pipeline.owesWithin
  rw [show (dat1 c V).owed t.castSucc = 0 from rfl, show (dat1 c V).owed t.succ = 0 from rfl]
  iintro ⟨Hrest, ⟨%W, %hW, HO⟩, ⟨%d0, H0⟩, ⟨%d1, H1⟩, ⟨%d2, H2⟩, ⟨%d3, H3⟩⟩
  rw [before1_0, before1_1, before1_2]
  iapply (runDec c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (zsB c V t) (wdB c V t) (bdB c V t) ((dat1 c V).before 3 t d3) _)
  isplitl [H0]; · iexact H0
  isplitl [H1]; · iexact H1
  isplitl [H2]; · iexact H2
  isplitl [H3]; · iexact H3
  iintro H0 H1 H2 H3
  isplitl [Hrest]; · iexact Hrest
  isplitl [HO]
  · iexists W; isplitr; · ipureintro; exact fun _ _ => Or.inl trivial
    iexact HO
  isplitl [H0]; · iexact H0
  isplitl [H1]; · iexact H1
  isplitl [H2]; · iexact H2
  iexact H3

end Cert.KernelIdeal.Enc
-- ==== Proof.Enc.Segs.lean ====
/-
  The two launches as segments of the program: what each is entered with, what it leaves in the unscoped buffers.
-/
module

public import proofs.«01_k».proof.Proof.Enc.Dat
public import proofs.«01_k».proof.Proof.Enc.Dec
public import Idealize.ShloMosaic.Lib.Pipeline.RegionsLoop

@[expose] public section

set_option maxRecDepth 16384

noncomputable section

namespace Cert.KernelIdeal.Enc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- The unscoped buffers the first launch is entered with. -/
abbrev W1 (c : Dev nD) (b : Ref sig .tc) : Buf (Elt F) ((c : Thread nD τ).loc b) := V1 m c b
/-- The sparse code the first launch leaves. -/
def zsV (c : Dev nD) : Buf (Elt F) ((c : Thread nD τ).loc main_v2) := (dat0 c (W1 m c)).arrAt 3 cfg0.N
/-- What the launches leave, the second not yet run. -/
def outs1 : Outs (F := F) := fun _ r c => Function.update (fun r => m ((c : Thread nD τ).loc r)) main_v2 (zsV m c) r
/-- The unscoped buffers the second launch is entered with. -/
abbrev W3 (c : Dev nD) (b : Ref sig .tc) : Buf (Elt F) ((c : Thread nD τ).loc b) := V3 m (outs1 m) c b
/-- The reconstruction the second launch leaves. -/
def recV (c : Dev nD) : Buf (Elt F) ((c : Thread nD τ).loc main_v4) := (dat1 c (W3 m c)).arrAt 3 cfg1.N
/-- What the launches leave. -/
def outs2 : Outs (F := F) := fun J r c => Function.update (fun r => outs1 m J r c) main_v4 (recV m c) r

/-- After the first launch the sparse code is what it left. -/
theorem outs1_v2 (J : ℕ) (c : Dev nD) : outs1 m J main_v2 c = zsV m c := by unfold outs1; rw [Function.update_self]
/-- The second launch leaves the sparse code. -/
theorem outs2_v2 (J : ℕ) (c : Dev nD) : outs2 m J main_v2 c = zsV m c := by
  unfold outs2; rw [Function.update_of_ne (by decide)]; exact outs1_v2 m J c
/-- After the second launch the reconstruction is what it left. -/
theorem outs2_v4 (J : ℕ) (c : Dev nD) : outs2 m J main_v4 c = recV m c := by unfold outs2; rw [Function.update_self]
/-- What is held after the first launch doesn't depend on the second. -/
theorem V2_outs (c : Dev nD) : V2 m (outs2 m) c = V2 m (outs1 m) c := by
  show Function.update _ _ _ = Function.update _ _ _
  rw [outs2_v2, outs1_v2]
/-- Nor does what is held when the second is entered. -/
theorem V3_outs (c : Dev nD) : V3 m (outs2 m) c = V3 m (outs1 m) c := by
  show StableHlo.after hostOps1 _ = StableHlo.after hostOps1 _
  rw [V2_outs]

/-- The sparse code is held after the first launch. -/
theorem V2_v2 (c : Dev nD) : V2 m (outs2 m) c main_v2 = zsV m c := by
  simp only [V2, Function.update_self]; exact outs2_v2 m 2 c
/-- The reconstruction is held at the end. -/
theorem V4_v4 (c : Dev nD) : V4 m (outs2 m) c main_v4 = recV m c := by
  simp only [V4, Function.update_self]; exact outs2_v4 m 4 c
/-- A buffer that is not the second launch's result is at the end as when it was entered. -/
theorem V4_ne (c : Dev nD) (r : Ref sig .tc) (h : r ∉ ([main_v4] : List (Ref sig .tc))) : V4 m (outs2 m) c r = W3 m c r := by
  rw [V4_of m (outs2 m) c r h, V3_outs]

/-- Both launches' proof data. -/
def pdats : (p : Fin 2) → (c : Dev nD) → Dat τ (Elt F) Unit ℕ (UR sig nD τ) ℕ (cfgs p) c
  | 0 => fun c => dat0 c (W1 m c)
  | 1 => fun c => dat1 c (W3 m c)

/-- No core owes another anything: no level is assigned. -/
abbrev L : GSem nD τ sig → Finset Unit := fun _ => ∅
/-- Every level is 0. -/
abbrev lv : GSem nD τ sig → Unit → ℕ := fun _ _ => 0
/-- What rides beside the buffers: nothing owed. -/
abbrev E (_ : Fin 3) (c : Dev nD) : sProp 𝕄 := iprop(∃ W, owes (c : Thread nD τ) (0 : CellTallies nD τ sig Unit) W)

set_option backward.isDefEq.respectTransparency.types false in
/-- The first launch: from the buffers at `V1`, the sparse code into `main_v2`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body0 c (W1 m c)).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs2 m) c) ∗ E 1 c)
  X _ := BI.emp
  Y _ := BI.emp
  Z c := Pipeline.unscopedRest (Ix := Unit) (Name := ℕ) (U := UR sig nD τ) (Lvl := ℕ) spec0 c (W1 m c)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (W1 m c) (dat0_A c (W1 m c))
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Φ0 c (W1 m c) 0 from rfl]
    rw [show Pipeline.scopedRest (pcfgs (F := F) 0).spec c = Pipeline.scopedRest spec0 c from rfl, scopedRest0_eq]
    unfold Φ0 rest6
    simp only [owns_whole_eq]
    iintro ⟨-, -, ⟨%A, HA⟩, ⟨%S, HS⟩, ⟨%P, HP⟩, Hr⟩
    iexists A, S, P
    isplitr; · ipureintro; exact inv_zero _ _ _ A S P
    isplitl [HA]; · iexists A; isplitr; (· ipureintro; rfl); iexact HA
    isplitl [HS]; · iexists S; isplitr; (· ipureintro; rfl); iexact HS
    isplitl [HP]; · iexists P; isplitr; (· ipureintro; rfl); iexact HP
    iexact Hr
  hout c := by
    rw [Pipeline.ownSems0_none, show (pdats m 0 c).Φ (Fin.last _) = Φ0 c (W1 m c) (Fin.last cfg0.N).val from rfl]
    rw [show Pipeline.scopedRest (Pipeline.pin (pcfgs (F := F)) adm 0).spec c = Pipeline.scopedRest spec0 c from rfl, scopedRest0_eq]
    unfold Φ0 rest6
    simp only [owns_whole_eq]
    iintro ⟨%A, %S, %P, -, ⟨%fA, -, HA⟩, ⟨%fS, -, HS⟩, ⟨%fP, -, HP⟩, Hr⟩
    isplitr; · iempintro
    isplitr; · iempintro
    isplitl [HA]; · iexists fA; iexact HA
    isplitl [HS]; · iexists fS; iexact HS
    isplitl [HP]; · iexists fP; iexact HP
    iexact Hr
  hexit c := by
    rw [← Pipeline.unscopedBufs_held (Ix := Unit) (Name := ℕ) (U := UR sig nD τ) (Lvl := ℕ) c (V2 m (outs2 m) c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (W1 m c) (fun b => V2 m (outs2 m) c b) ((pdats m 0 c).arrAt · cfg0.N)
      (fun w => by
        fin_cases w
        · exact ((pdats m 0 c).arrAt_in 0 rfl _).trans (V2_of m (outs2 m) c main_arg0 (by decide)).symm
        · exact ((pdats m 0 c).arrAt_in 1 rfl _).trans (V2_of m (outs2 m) c main_arg1 (by decide)).symm
        · exact ((pdats m 0 c).arrAt_in 2 rfl _).trans (V2_of m (outs2 m) c main_v0 (by decide)).symm
        · exact (V2_v2 m c).symm)
      (fun b hb => V2_of m (outs2 m) c b fun h => hb (by
        rw [List.mem_singleton] at h; rw [h]; exact Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second launch: from the buffers at `V3`, the reconstruction into `main_v4`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body1 c (W3 m c)).loose
  hwaits := Pipeline.hwaits_of_owed_zero _ _ _ _ L lv 1 fun _ _ => rfl
  pre c := iprop(StableHlo.held (c : Thread nD τ) (Pipeline.ucRefs τ sig) (V3 m (outs2 m) c) ∗ E 1 c)
  post c := iprop(StableHlo.held (c : Thread nD τ) (Pipeline.ucRefs τ sig) (V4 m (outs2 m) c) ∗ E 2 c)
  X _ := BI.emp
  Y _ := BI.emp
  Z c := Pipeline.unscopedRest (Ix := Unit) (Name := ℕ) (U := UR sig nD τ) (Lvl := ℕ) spec1 c (W3 m c)
  hentry c := by
    rw [V3_outs, Pipeline.ownSems0_none, ← Pipeline.unscopedBufs_held (Ix := Unit) (Name := ℕ) (U := UR sig nD τ) (Lvl := ℕ) c (V3 m (outs1 m) c)]
    have hsplit := Pipeline.arrays_of_unscopedBufs (p := 1) (pcfgs (F := F)) adm (pdats m) launch1.win launch1.arr_whole c
      ((pdats m 1 c).share_full fun _ => rfl) (W3 m c) (dat1_A c (W3 m c))
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = rest11 c from rfl, show Pipeline.scopedRest (pcfgs (F := F) 1).spec c = rest11 c from rfl]
    iintro ⟨-, -, Hr⟩; iexact Hr
  hout c := by
    rw [Pipeline.ownSems0_none, show (pdats m 1 c).Φ (Fin.last _) = rest11 c from rfl,
      show Pipeline.scopedRest (Pipeline.pin (pcfgs (F := F)) adm 1).spec c = rest11 c from rfl]
    iintro Hr
    isplitr; · iempintro
    isplitr; · iempintro
    iexact Hr
  hexit c := by
    rw [← Pipeline.unscopedBufs_held (Ix := Unit) (Name := ℕ) (U := UR sig nD τ) (Lvl := ℕ) c (V4 m (outs2 m) c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (W3 m c) (fun b => V4 m (outs2 m) c b) ((pdats m 1 c).arrAt · cfg1.N)
      (fun w => by
        fin_cases w
        · exact ((pdats m 1 c).arrAt_in 0 rfl _).trans ((dat1_A c (W3 m c) 0).trans (V4_ne m c main_v2 (by decide)).symm)
        · exact ((pdats m 1 c).arrAt_in 1 rfl _).trans ((dat1_A c (W3 m c) 1).trans (V4_ne m c main_v3 (by decide)).symm)
        · exact ((pdats m 1 c).arrAt_in 2 rfl _).trans ((dat1_A c (W3 m c) 2).trans (V4_ne m c main_v1 (by decide)).symm)
        · exact (V4_v4 m c).symm)
      (fun b hb => V4_ne m c b fun h => hb (by
        rw [List.mem_singleton] at h; rw [h]; exact Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Enc
-- ==== Proof.Enc.Main.lean ====
/-
  The program's run: every weakly fair execution ends with the arguments as launched, both results at what the launches
  leave, every semaphore counter at zero.
-/
module

public import proofs.«01_k».proof.Proof.Enc.Segs

@[expose] public section

set_option maxRecDepth 16384

noncomputable section

namespace Cert.KernelIdeal.Enc

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- What the end shows on core `c`: the two results at what the launches leave, each argument as launched. -/
def Ends (c : Dev nD) (s : MemSt nD τ sig (Elt F)) : Prop :=
  s.mem ((c.tc : Thread nD τ).loc main_v4) = recV m c
  ∧ s.mem ((c.tc : Thread nD τ).loc main_v2) = zsV m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The sparse code is still there when the second launch is entered, and at the end. -/
theorem W3_v2 (c : Dev nD) : W3 m c main_v2 = zsV m c := by
  show V3 m (outs1 m) c main_v2 = _
  rw [V3_of m (outs1 m) c main_v2 (by decide), ← V2_outs]
  exact V2_v2 m c
/-- The sparse code is still there at the end. -/
theorem V4_v2 (c : Dev nD) : V4 m (outs2 m) c main_v2 = zsV m c := (V4_ne m c main_v2 (by decide)).trans (W3_v2 m c)

set_option backward.isDefEq.respectTransparency.types false in
/-- The run, from any memory with every counter at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj emb₁ defs₀ Variants.none L lv m ρ main
    (segs m (outs2 m) Variants.none L lv E () (pdats m) (reg0 m) (reg1 m))
    (fun c Q => by
      rewrite [main_chain c, Pipeline.Seg.run_eq_chain,
        show (segs m (outs2 m) Variants.none L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V4 m (outs2 m) c))
    (hch := fun c => ⟨.rfl, .rfl, .rfl, .rfl, .rfl⟩)
    (hinit := ?_) (QY := fun c s => Ends m c s)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs2 m) c) s') $$ [Hh HSI]
    · isplitl [Hh] <;> iassumption
    icases Hr with ⟨%h, HSI⟩
    imodintro
    isplitr
    · ipureintro
      have hm := fun (r : Ref sig .tc) (hr : ¬ (Proc.devRef .tc r : DevRef τ sig).isScoped) =>
        h (Proc.devRef .tc r) (Finset.mem_filter.mpr ⟨StableHlo.devRef_mem_tcRefs r, hr⟩)
      exact ⟨(hm main_v4 (by decide)).trans (V4_v4 m c), (hm main_v2 (by decide)).trans (V4_v2 m c),
        (hm main_arg0 (by decide)).trans (V4_main_arg0 m (outs2 m) c), (hm main_arg1 (by decide)).trans (V4_main_arg1 m (outs2 m) c),
        (hm main_arg2 (by decide)).trans (V4_main_arg2 m (outs2 m) c), (hm main_arg3 (by decide)).trans (V4_main_arg3 m (outs2 m) c),
        (hm main_arg4 (by decide)).trans (V4_main_arg4 m (outs2 m) c)⟩
    · iexact HSI

end Cert.KernelIdeal.Enc
-- ==== Proof.Frames.lean ====
/-
  The frames of the three programs, the sanctioned rewrite, and the side conditions of the precondition.
-/
module

public import proofs.«01_k».proof.Defs
public import proofs.«01_k».proof.Proof.Ref.Run
public import proofs.«01_k».proof.Proof.Enc.Main
public import proofs.«01_k».proof.Proof.Bit.Main

@[expose] public section

set_option maxRecDepth 16384

noncomputable section

namespace Cert.Frames

open Idealize.ShloMosaic Idealize.ShloMosaic.TcCoe Idealize.SL.Sem

/-- The side conditions of the precondition's operations. -/
instance pre_facts : Cert.Pre_cut_is_told_apart.Facts where
  bcast_S16384_S1x16384_1 := by decide
  bcast_S1x16384_S4096x16384_0_1 := by decide
  sliceFits_S4096x16384_S4096x64 := by decide
  slices_S4096x64_S4096x1_0_63 := by decide
  bcast_S_S4096x1 := by decide
  bcast_S4096x1_S4096x16384_0_1 := by decide
  natLt_1_32 := by decide
  reducesTo_S4096x16384_S4096_d1 := by decide
  h_S_ := by decide
  bcast_S4096_S4096x1_0 := by decide
  dot_S4096x768_S768x16384_S4096x16384_1_0_0_1_n_n_wf := by decide

/-- The kernel as printed runs, leaves its arguments alone and ends with every counter at zero. -/
theorem kernel : quiescent_Kernel := fun m g _ =>
  θ_run_mono (Cert.Kernel.Enc.run_main (F := Bits) m g) (fun r h => ⟨fun c => (h.1 c).2.2, h.2⟩)

/-- So does the idealized kernel, from any memory. -/
theorem kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_mono (Cert.KernelIdeal.Enc.run_main (F := Ideal) m g) (fun r h => ⟨fun c => (h.1 c).2.2, h.2⟩)

/-- And the idealized reference. -/
theorem referenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  θ_run_mono (Cert.ReferenceIdeal.Ref.run (F := Ideal) m g) (fun r h => ⟨fun c => (h c).2.2, sem_eq_zero_of_no_sems (by decide) r.2⟩)

/-- The sanctioned rewrite: the sign bit read as a comparison. -/
theorem preserves : preserves_Kernel_KernelIdeal := IdealRules.sign_bit.statement Cert.KernelIdeal.S128x2048 .f32

end Cert.Frames
-- ==== Proof.Math.Rank.lean ====
/-
  The stable sort that a top-k takes, over any linear order: position `j` of it holds the entry with `j` entries ahead
  of it, an entry ahead of another being greater, or equal and at the lower position.
-/
module

public import Idealize.ShloMosaic.Lib.SortFacts
public import Mathlib.Data.Fintype.Card
public import Mathlib.Order.Fin.Basic

@[expose] public section

namespace Cert.TopRank

open Idealize.ShloMosaic

variable {N : Nat} {α : Type} [LinearOrder α] (a : Fin N → α)

/-- `m` is ahead of `n`: its entry is greater, or equal and at the lower position. -/
def Ahead (m n : Fin N) : Prop := a n < a m ∨ a m = a n ∧ m < n

/-- To be ahead is transitive. -/
theorem Ahead.trans {a : Fin N → α} {l m n : Fin N} (h : Ahead a l m) (h' : Ahead a m n) : Ahead a l n := by
  rcases h with h | ⟨e, h⟩ <;> rcases h' with h' | ⟨e', h'⟩
  · exact .inl (h'.trans h)
  · exact .inl (e' ▸ h)
  · exact .inl (e ▸ h')
  · exact .inr ⟨e.trans e', h.trans h'⟩
/-- No entry is ahead of itself. -/
theorem Ahead.irrefl (n : Fin N) : ¬ Ahead a n n := by
  rintro (h | ⟨_, h⟩) <;> exact lt_irrefl _ h
/-- Of two entries one is ahead. -/
theorem ahead_or (m n : Fin N) (h : m ≠ n) : Ahead a m n ∨ Ahead a n m := by
  rcases lt_trichotomy (a m) (a n) with e | e | e
  · exact .inr (.inl e)
  · rcases lt_or_gt_of_ne h with h | h
    · exact .inl (.inr ⟨e, h⟩)
    · exact .inr (.inr ⟨e.symm, h⟩)
  · exact .inl (.inl e)

open Classical in
/-- How many entries are ahead of `n`. -/
noncomputable def rank (n : Fin N) : ℕ := (Finset.univ.filter fun m => Ahead a m n).card

variable (before : Fin N → Fin N → Bool) (hb : ∀ m n, before m n = true ↔ a n < a m)
include hb

/-- To insert an entry into a list in order keeps the order. -/
theorem pairwise_insert (n : Fin N) (l : List (Fin N)) (hn : ∀ m ∈ l, n < m) (hl : l.Pairwise (Ahead a)) :
    (insertBefore before n l).Pairwise (Ahead a) := by
  induction l with
  | nil => exact List.pairwise_singleton _ _
  | cons b l ih =>
    rw [List.pairwise_cons] at hl
    have hperm := perm_insertBefore before n l
    unfold insertBefore
    split
    · rename_i h
      refine List.pairwise_cons.mpr ⟨fun c hc => ?_, ih (fun m hm => hn m (List.mem_cons_of_mem _ hm)) hl.2⟩
      rcases List.mem_cons.mp (hperm.mem_iff.mp hc) with rfl | hc
      · exact .inl ((hb _ _).mp h)
      · exact hl.1 c hc
    · rename_i h
      have hnb : Ahead a n b := by
        rcases ahead_or a n b (hn b List.mem_cons_self).ne with h' | (h' | ⟨_, h'⟩)
        · exact h'
        · exact absurd ((hb _ _).mpr h') h
        · exact absurd h' (hn b List.mem_cons_self).not_gt
      refine List.pairwise_cons.mpr ⟨fun c hc => ?_, List.pairwise_cons.mpr hl⟩
      rcases List.mem_cons.mp hc with rfl | hc
      · exact hnb
      · exact hnb.trans (hl.1 c hc)

/-- The sort's list is in order. -/
theorem pairwise_sort (l : List (Fin N)) (hl : l.Pairwise (· < ·)) : (stableSort before l).Pairwise (Ahead a) := by
  induction l with
  | nil => exact List.Pairwise.nil
  | cons n l ih =>
    rw [List.pairwise_cons] at hl
    unfold stableSort
    exact pairwise_insert a before hb n _ (fun m hm => hl.1 m ((perm_stableSort before l).mem_iff.mp hm)) (ih hl.2)

/-- Earlier positions of the sort hold entries ahead. -/
theorem ahead_of_lt {i j : Fin N} (h : i < j) : Ahead a (sortedFrom before i) (sortedFrom before j) := by
  have hp : (sortPositions N before).Pairwise (Ahead a) := pairwise_sort a before hb _ (List.pairwise_lt_finRange N)
  unfold sortedFrom
  exact List.pairwise_iff_get.mp hp _ _ (by simpa using h)

/-- In the sort, earlier is ahead. -/
theorem ahead_iff {i j : Fin N} : Ahead a (sortedFrom before i) (sortedFrom before j) ↔ i < j := by
  refine ⟨fun h => ?_, ahead_of_lt a before hb⟩
  rcases lt_trichotomy i j with e | e | e
  · exact e
  · subst e; exact absurd h (Ahead.irrefl a _)
  · exact absurd (h.trans (ahead_of_lt a before hb e)) (Ahead.irrefl a _)

/-- Position `j` holds the entry of rank `j`. -/
theorem rank_sortedFrom (j : Fin N) : rank a (sortedFrom before j) = j.val := by
  classical
  unfold rank
  have e : (Finset.univ.filter fun m => Ahead a m (sortedFrom before j)) = (Finset.univ.filter fun i : Fin N => i < j).image (sortedFrom before) := by
    ext m
    obtain ⟨i, rfl⟩ := sortedFrom_surjective before m
    simp only [Finset.mem_filter, Finset.mem_univ, true_and, Finset.mem_image, ahead_iff a before hb]
    exact ⟨fun h => ⟨i, h, rfl⟩, fun ⟨k, hk, e⟩ => sortedFrom_injective before e ▸ hk⟩
  rw [e, Finset.card_image_of_injective _ (sortedFrom_injective before)]
  have : (Finset.univ.filter fun i : Fin N => i < j) = Finset.Iio j := by ext i; simp
  rw [this, Fin.card_Iio]

/-- An entry is among the first `k` positions exactly when fewer than `k` are ahead of it. -/
theorem exists_pos_iff (k : ℕ) (n : Fin N) : (∃ j : Fin N, j.val < k ∧ sortedFrom before j = n) ↔ rank a n < k := by
  constructor
  · rintro ⟨j, hj, rfl⟩; rwa [rank_sortedFrom a before hb]
  · intro h
    obtain ⟨j, rfl⟩ := sortedFrom_surjective before n
    exact ⟨j, by rwa [rank_sortedFrom a before hb] at h, rfl⟩

open Classical in
/-- `c` is at most the entry at position `k` exactly when more than `k` entries are at least `c`. -/
theorem le_pos_iff (k : Fin N) (c : α) : c ≤ a (sortedFrom before k) ↔ k.val + 1 ≤ (Finset.univ.filter fun m => c ≤ a m).card := by
  have mono : ∀ i j : Fin N, i ≤ j → a (sortedFrom before j) ≤ a (sortedFrom before i) := fun i j h => by
    rcases h.lt_or_eq with h | rfl
    · rcases ahead_of_lt a before hb h with h | ⟨h, _⟩
      · exact h.le
      · exact h.ge
    · exact le_rfl
  constructor
  · intro h
    rw [← Fin.card_Iic k, ← Finset.card_image_of_injective _ (sortedFrom_injective before)]
    refine Finset.card_le_card fun m hm => ?_
    obtain ⟨i, hi, rfl⟩ := Finset.mem_image.mp hm
    exact Finset.mem_filter.mpr ⟨Finset.mem_univ _, h.trans (mono i k (Finset.mem_Iic.mp hi))⟩
  · intro h
    by_contra hc
    rw [not_le] at hc
    refine absurd (h.trans (Finset.card_le_card (t := (Finset.Iio k).image (sortedFrom before)) fun m hm => ?_)) ?_
    · obtain ⟨i, rfl⟩ := sortedFrom_surjective before m
      refine Finset.mem_image_of_mem _ (Finset.mem_Iio.mpr ?_)
      by_contra hi
      exact absurd ((Finset.mem_filter.mp hm).2.trans (mono k i (not_lt.mp hi))) (not_le.mpr hc)
    · rw [Finset.card_image_of_injective _ (sortedFrom_injective before), Fin.card_Iio]; omega

end Cert.TopRank
-- ==== Proof.Math.Keep.lean ====
/-
  Which entries a threshold and a column bound keep: the first `K` of a row, where the threshold tells them apart.
-/
module

public import proofs.«01_k».proof.Proof.Math.Rank

@[expose] public section

namespace Cert.TopRank

open Classical

variable {N : Nat} {α : Type} [LinearOrder α] (a : Fin N → α) (f : α)

/-- How many entries are at least `f`, above `f`, and equal to `f` before column `k`. -/
noncomputable def nge : ℕ := (Finset.univ.filter fun m => f ≤ a m).card
noncomputable def ngt : ℕ := (Finset.univ.filter fun m => f < a m).card
noncomputable def neq (k : ℕ) : ℕ := (Finset.univ.filter fun m => a m = f ∧ m.val < k).card

/-- The entries equal to `f` before a position grow with it. -/
theorem neq_mono {k l : ℕ} (h : k ≤ l) : neq a f k ≤ neq a f l :=
  Finset.card_le_card fun m hm => by
    simp only [Finset.mem_filter, Finset.mem_univ, true_and] at hm ⊢
    exact ⟨hm.1, lt_of_lt_of_le hm.2 h⟩

/-- No more entries are over `f` than reach it. -/
theorem ngt_le_nge : ngt a f ≤ nge a f :=
  Finset.card_le_card fun m hm => by
    simp only [Finset.mem_filter, Finset.mem_univ, true_and] at hm ⊢; exact hm.le

/-- Those over `f` and those equal to it before a position all reach it. -/
theorem ngt_add_neq_le (n : Fin N) : ngt a f + neq a f n.val ≤ nge a f := by
  unfold ngt neq nge
  rw [← Finset.card_union_of_disjoint]
  · refine Finset.card_le_card fun m hm => ?_
    simp only [Finset.mem_union, Finset.mem_filter, Finset.mem_univ, true_and] at hm ⊢
    rcases hm with h | h
    · exact h.le
    · exact h.1.ge
  · refine Finset.disjoint_filter.mpr fun m _ h h' => ?_
    rw [h'.1] at h; exact lt_irrefl _ h

/-- With one more where the position's own entry is equal to it. -/
theorem ngt_add_neq_lt (n : Fin N) (hn : a n = f) : ngt a f + neq a f n.val < nge a f := by
  have h := ngt_add_neq_le a f n
  have hlt : ngt a f + neq a f n.val < ngt a f + neq a f (n.val + 1) := by
    refine Nat.add_lt_add_left (Finset.card_lt_card ?_) _
    refine Finset.ssubset_iff_of_subset (fun m hm => ?_) |>.mpr ⟨n, ?_, ?_⟩
    · simp only [Finset.mem_filter, Finset.mem_univ, true_and] at hm ⊢
      exact ⟨hm.1, by omega⟩
    · simp only [Finset.mem_filter, Finset.mem_univ, true_and]; exact ⟨hn, by omega⟩
    · simp only [Finset.mem_filter, Finset.mem_univ, true_and]; omega
  refine hlt.trans_le ?_
  unfold ngt neq nge
  rw [← Finset.card_union_of_disjoint]
  · refine Finset.card_le_card fun m hm => ?_
    simp only [Finset.mem_union, Finset.mem_filter, Finset.mem_univ, true_and] at hm ⊢
    rcases hm with h | h
    · exact h.le
    · exact h.1.ge
  · refine Finset.disjoint_filter.mpr fun m _ h h' => ?_
    rw [h'.1] at h; exact lt_irrefl _ h

/-- An entry over `f` ranks among those over it. -/
theorem rank_of_gt (n : Fin N) (hn : f < a n) : rank a n < ngt a f := by
  unfold rank ngt
  refine Finset.card_lt_card (Finset.ssubset_iff_of_subset (fun m hm => ?_) |>.mpr ⟨n, ?_, ?_⟩)
  · simp only [Finset.mem_filter, Finset.mem_univ, true_and] at hm ⊢
    rcases hm with h | ⟨h, _⟩
    · exact hn.trans h
    · exact h ▸ hn
  · simpa using hn
  · simpa using Ahead.irrefl a n

/-- An entry equal to `f` ranks after those over it and the equal ones before. -/
theorem rank_of_eq (n : Fin N) (hn : a n = f) : rank a n = ngt a f + neq a f n.val := by
  unfold rank ngt neq
  rw [← Finset.card_union_of_disjoint]
  · congr 1
    ext m
    simp only [Finset.mem_union, Finset.mem_filter, Finset.mem_univ, true_and, Ahead, hn, Fin.lt_def]
  · refine Finset.disjoint_filter.mpr fun m _ h h' => ?_
    rw [h'.1] at h; exact lt_irrefl _ h

/-- An entry below `f` ranks after all that reach it. -/
theorem nge_le_rank (n : Fin N) (hn : a n < f) : nge a f ≤ rank a n :=
  Finset.card_le_card fun m hm => by
    simp only [Finset.mem_filter, Finset.mem_univ, true_and] at hm ⊢
    exact .inl (lt_of_lt_of_le hn hm)

/-- With at least `K` entries at least `f`, and fewer than `K` above it or exactly `K` at least it: an entry is among
    the first `K` exactly when it is above `f`, or equal to `f` with too few ties before it to reach `K`. -/
theorem rank_lt_iff (K : ℕ) (hge : K ≤ nge a f) (hcut : ngt a f < K ∨ nge a f = K) (n : Fin N) :
    rank a n < K ↔ f < a n ∨ (a n = f ∧ ngt a f + neq a f n.val < K) := by
  have hgK : ngt a f ≤ K := by rcases hcut with h | h; exact h.le; exact h ▸ ngt_le_nge a f
  rcases lt_trichotomy f (a n) with h | h | h
  · exact ⟨fun _ => .inl h, fun _ => (rank_of_gt a f n h).trans_le hgK⟩
  · rw [rank_of_eq a f n h.symm]
    exact ⟨fun h' => .inr ⟨h.symm, h'⟩, fun h' => h'.elim (fun h'' => absurd (h ▸ h'') (lt_irrefl _)) (·.2)⟩
  · refine ⟨fun h' => absurd (h'.trans_le (hge.trans (nge_le_rank a f n h))) (lt_irrefl _), ?_⟩
    rintro (h' | ⟨h', _⟩)
    · exact absurd (h.trans h') (lt_irrefl _)
    · exact absurd (h' ▸ h) (lt_irrefl _)

/-- With exactly `K` entries at least `f`, the first `K` are those. -/
theorem rank_lt_iff_of_eq (K : ℕ) (hge : nge a f = K) (n : Fin N) :
    rank a n < K ↔ f < a n ∨ a n = f := by
  rw [rank_lt_iff a f K hge.ge (.inr hge) n]
  refine or_congr_right ⟨(·.1), fun h => ⟨h, hge ▸ ngt_add_neq_lt a f n h⟩⟩

end Cert.TopRank
-- ==== Proof.Val.Count.lean ====
/-
  Counts of a row, as the kernel takes them: the ones of a mask, widened and summed along the row.
-/
module

public import proofs.«01_k».proof.Proof.Enc.Val
public import proofs.«01_k».proof.Proof.Math.Keep
public import Idealize.ShloMosaic.Lib.Pointwise
public import Idealize.ShloMosaic.Lib.IndicatorCount
public import Idealize.ShloMosaic.Lib.WordCmp

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

/-- The count of a mask along 16384 columns. -/
def cntRow (msk : IVec S128x16384 1) : IVec S128x1 32 :=
  shapeCast S128x1 (multiReductionI .add [1] S128 (extui 32 msk Facts₀.natLt_1_32) 0#32 Facts₀.reduces_S128x16384_S128 rfl) Facts₀.shapeCasts_S128_S128x1

/-- The count of a block's mask, row by row. -/
theorem cntRow_apply (msk : IVec S128x16384 1) (r : Fin 128) :
    cntRow msk (ix2 r 0) = BitVec.ofNat 32 (Finset.univ.filter fun n : Fin 16384 => msk (ix2 r n) = 1#1).card := by
  rw [← IndicatorCount.fold_addi_setWidth_eq_card (fun n : Fin 16384 => msk (ix2 r n)) Finset.univ]
  pointwise [cntRow]

/-- A row of magnitudes. -/
def row (A : Vec Ideal S1x128x16384 .f32) (r : Fin 128) : Fin 16384 → EReal := fun n => A (ix3 0 r n)

/-- The entries of a block at least a column's, counted. -/
def cntGe (A : Vec Ideal S1x128x16384 .f32) (f : FVec Ideal S128x1 .f32) : IVec S128x1 32 :=
  cntRow (cmpf .oge (shapeCast S128x16384 A Facts₀.shapeCasts_S1x128x16384_S128x16384) (broadcastTo S128x16384 f Facts₀.broadcasts_S128x1_S128x16384))
/-- The entries above it, counted. -/
def cntGt (A : Vec Ideal S1x128x16384 .f32) (f : FVec Ideal S128x1 .f32) : IVec S128x1 32 :=
  cntRow (cmpf .ogt (shapeCast S128x16384 A Facts₀.shapeCasts_S1x128x16384_S128x16384) (broadcastTo S128x16384 f Facts₀.broadcasts_S128x1_S128x16384))

/-- A slot as a matrix. -/
theorem cast_apply (A : Vec Ideal S1x128x16384 .f32) (r : Fin 128) (n : Fin 16384) :
    shapeCast S128x16384 A Facts₀.shapeCasts_S1x128x16384_S128x16384 (ix2 r n) = row A r n := by
  unfold row
  pointwise
/-- A column spread over a block. -/
theorem bcast_apply (f : FVec Ideal S128x1 .f32) (r : Fin 128) (n : Fin 16384) :
    broadcastTo S128x16384 f Facts₀.broadcasts_S128x1_S128x16384 (ix2 r n) = f (ix2 r 0) := by
  pointwise

/-- How many entries of a row reach its threshold. -/
theorem cntGe_apply (A : Vec Ideal S1x128x16384 .f32) (f : FVec Ideal S128x1 .f32) (r : Fin 128) :
    cntGe A f (ix2 r 0) = BitVec.ofNat 32 (nge (row A r) (f (ix2 r 0))) := by
  unfold cntGe
  rw [cntRow_apply]
  unfold nge
  refine congrArg (fun s : Finset (Fin 16384) => BitVec.ofNat 32 s.card) (Finset.filter_congr fun n _ => ?_)
  show BitVec.ofBool (decide (broadcastTo S128x16384 f Facts₀.broadcasts_S128x1_S128x16384 (ix2 r n)
    ≤ shapeCast S128x16384 A Facts₀.shapeCasts_S1x128x16384_S128x16384 (ix2 r n))) = 1#1 ↔ _
  rw [ofBool_decide_eq_one_iff, cast_apply, bcast_apply]

/-- How many are over it. -/
theorem cntGt_apply (A : Vec Ideal S1x128x16384 .f32) (f : FVec Ideal S128x1 .f32) (r : Fin 128) :
    cntGt A f (ix2 r 0) = BitVec.ofNat 32 (ngt (row A r) (f (ix2 r 0))) := by
  unfold cntGt
  rw [cntRow_apply]
  unfold ngt
  refine congrArg (fun s : Finset (Fin 16384) => BitVec.ofNat 32 s.card) (Finset.filter_congr fun n _ => ?_)
  show BitVec.ofBool (decide (broadcastTo S128x16384 f Facts₀.broadcasts_S128x1_S128x16384 (ix2 r n)
    < shapeCast S128x16384 A Facts₀.shapeCasts_S1x128x16384_S128x16384 (ix2 r n))) = 1#1 ↔ _
  rw [ofBool_decide_eq_one_iff, cast_apply, bcast_apply]

/-- A row has 16384 entries: no more reach a number. -/
theorem nge_le (a : Fin 16384 → EReal) (f : EReal) : nge a f ≤ 16384 :=
  (Finset.card_le_univ _).trans (by simp)
/-- No more are over it. -/
theorem ngt_le (a : Fin 16384 → EReal) (f : EReal) : ngt a f ≤ 16384 :=
  (Finset.card_le_univ _).trans (by simp)
/-- No more are equal to it. -/
theorem neq_le (a : Fin 16384 → EReal) (f : EReal) (k : ℕ) : neq a f k ≤ 16384 :=
  (Finset.card_le_univ _).trans (by simp)

/-- A small natural as a signed word. -/
theorem toInt_ofNat (n : ℕ) (h : n ≤ 16384) : (BitVec.ofNat 32 n).toInt = n := by
  exact WordCmp.toInt_ofNat_of_lt (by omega)

end Cert.KernelIdeal.Val
-- ==== Proof.Math.Search.lean ====
/-
  Two searches bit by bit, from the highest bit down: of a 31-bit word under any test, and of a column number below
  `2 ^ 14` under a test that fails beyond some column.
-/
module

public import Mathlib.Data.BitVec
public import Mathlib.Data.Nat.Bitwise
public import Mathlib.Tactic.Ring
public import Mathlib.Tactic.NormNum
public import Mathlib.Tactic.Positivity

@[expose] public section

namespace Cert.TopRank

open Classical

/-- The word whose one bit is the `n`-th that the search tries. -/
def bitAt (n : ℕ) : BitVec 32 := 1#32 <<< (30 - n)

/-- The search of a word after `n` bits: a bit is kept where the word with it passes the test. -/
noncomputable def srch (T : BitVec 32 → Prop) : ℕ → BitVec 32
  | 0 => 0#32
  | n + 1 => if T (srch T n ||| bitAt n) then srch T n ||| bitAt n else srch T n

/-- Equivalent tests find the same word. -/
theorem srch_congr {T T' : BitVec 32 → Prop} (h : ∀ w, T w ↔ T' w) (n : ℕ) : srch T n = srch T' n := by
  have : T = T' := funext fun w => propext (h w)
  rw [this]

/-- The word whose one bit is the `n`-th that the column search tries. -/
def colBit (n : ℕ) : BitVec 32 := 1#32 <<< (13 - n)

/-- The column search after `n` bits. -/
noncomputable def csrch (Q : ℕ → Prop) : ℕ → BitVec 32
  | 0 => 0#32
  | n + 1 => if Q (csrch Q n ||| colBit n).toNat then csrch Q n ||| colBit n else csrch Q n

/-- Setting the next bit of a column number adds its power of two. -/
theorem toNat_or_colBit (n : ℕ) (hn : n < 14) (t : BitVec 32) (c : ℕ) (ht : t.toNat = 2 ^ (14 - n) * c) :
    (t ||| colBit n).toNat = t.toNat + 2 ^ (13 - n) := by
  have e : (colBit n).toNat = 2 ^ (13 - n) := by
    have : ∀ k : Fin 14, (1#32 <<< (13 - k.val)).toNat = 2 ^ (13 - k.val) := by decide
    exact this ⟨n, hn⟩
  have hlt : 2 ^ (13 - n) < 2 ^ (14 - n) := Nat.pow_lt_pow_right (by norm_num) (by omega)
  rw [BitVec.toNat_or, e, ht, ← Nat.two_pow_add_eq_or_of_lt hlt]

/-- What the column search keeps: its word is a multiple of the bits still to try, passes the test unless zero, and every
    column past those bits fails it. -/
theorem csrch_inv (Q : ℕ → Prop) (hQ : ∀ k l, k ≤ l → Q l → Q k) (n : ℕ) (hn : n ≤ 14) :
    (∃ c, (csrch Q n).toNat = 2 ^ (14 - n) * c) ∧ ((csrch Q n).toNat = 0 ∨ Q (csrch Q n).toNat)
      ∧ ∀ k, (csrch Q n).toNat + 2 ^ (14 - n) ≤ k → k < 2 ^ 14 → ¬ Q k := by
  induction n with
  | zero => exact ⟨⟨0, rfl⟩, .inl rfl, fun k h h' => absurd h (by simp [csrch] at h ⊢; omega)⟩
  | succ n ih =>
    obtain ⟨⟨c, hc⟩, hz, hk⟩ := ih (by omega)
    have e := toNat_or_colBit n (by omega) _ c hc
    have hp : 2 ^ (14 - n) = 2 * 2 ^ (13 - n) := by
      rw [show 14 - n = 13 - n + 1 by omega, pow_succ, Nat.mul_comm]
    have hp' : 14 - (n + 1) = 13 - n := by omega
    rw [hp']
    unfold csrch
    split
    · rename_i hq
      refine ⟨⟨2 * c + 1, by rw [e, hc, hp]; ring⟩, .inr hq, fun k h h' => hk k ?_ h'⟩
      rw [e] at h; omega
    · rename_i hq
      refine ⟨⟨2 * c, by rw [hc, hp]; ring⟩, hz, fun k h h' hQk => hq ?_⟩
      rw [e]
      exact hQ _ _ h hQk

/-- Where the first column passes the test, those that pass are those up to the column found. -/
theorem le_csrch_iff (Q : ℕ → Prop) (hQ : ∀ k l, k ≤ l → Q l → Q k) (h0 : Q 0) (k : ℕ) (hk : k < 2 ^ 14) :
    k ≤ (csrch Q 14).toNat ↔ Q k := by
  obtain ⟨-, hz, hf⟩ := csrch_inv Q hQ 14 le_rfl
  constructor
  · intro h
    rcases hz with hz | hz
    · have : k = 0 := by omega
      exact this ▸ h0
    · exact hQ _ _ h hz
  · intro h
    by_contra hc
    exact hf k (by simp; omega) hk h

/-- The column found is below `2 ^ 14`. -/
theorem csrch_lt (Q : ℕ → Prop) (n : ℕ) (hn : n ≤ 14) : (csrch Q n).toNat < 2 ^ 14 := by
  have : ∃ c, (csrch Q n).toNat = 2 ^ (14 - n) * c ∧ (csrch Q n).toNat + 2 ^ (14 - n) ≤ 2 ^ 14 := by
    induction n with
    | zero => exact ⟨0, rfl, by simp [csrch]⟩
    | succ n ih =>
      obtain ⟨c, hc, hle⟩ := ih (by omega)
      have e := toNat_or_colBit n (by omega) _ c hc
      have hp : 2 ^ (14 - n) = 2 * 2 ^ (13 - n) := by
        rw [show 14 - n = 13 - n + 1 by omega, pow_succ, Nat.mul_comm]
      have hp' : 14 - (n + 1) = 13 - n := by omega
      rw [hp']
      unfold csrch
      split
      · exact ⟨2 * c + 1, by rw [e, hc, hp]; ring, by rw [e]; omega⟩
      · exact ⟨2 * c, by rw [hc, hp]; ring, by omega⟩
  obtain ⟨c, _, h⟩ := this
  have : 0 < 2 ^ (14 - n) := Nat.pos_of_ne_zero (by positivity)
  omega

end Cert.TopRank
-- ==== Proof.Val.Step.lean ====
/-
  The threshold search, row by row: each bit is kept where at least 64 entries of the row are at least the number whose
  word has it.
-/
module

public import proofs.«01_k».proof.Proof.Val.Count
public import proofs.«01_k».proof.Proof.Math.Search
public import proofs.«01_k».proof.Proof.Enc.Inv

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

/-- One trial: the candidate words where the count is at least 64 and the bit is one of the word's, the others unchanged. -/
def trial (A : Vec Ideal S1x128x16384 .f32) (c p : IVec S128x1 32) (ok : BitVec 1) : IVec S128x1 32 :=
  select (andi (cmpi .sge (cntGe A (bitcastToFloat .f32 c)) (broadcast S128x1 64#32)) (broadcast S128x1 ok)) c p
/-- The candidate words. -/
def cand (p : IVec S128x1 32) (w : BitVec 32) : IVec S128x1 32 := ori p (broadcast S128x1 (Scalar.shli 1#32 (Scalar.maxsi w 0#32)))

/-- The test of a candidate word against a row. -/
def Pass (a : Fin 16384 → EReal) (w : BitVec 32) : Prop := 64 ≤ nge a (FloatOps.ofBits (F := Ideal) .f32 w)

/-- One trial of the search in a row. -/
theorem trial_apply (A : Vec Ideal S1x128x16384 .f32) (c p : IVec S128x1 32) (r : Fin 128) :
    trial A c p 1#1 (ix2 r 0) = if Pass (row A r) (c (ix2 r 0)) then c (ix2 r 0) else p (ix2 r 0) := by
  show (if IntOp.andi (IntOp.cmpi .sge (cntGe A (bitcastToFloat .f32 c) (ix2 r 0)) 64#32) 1#1 = 1#1 then c (ix2 r 0) else p (ix2 r 0)) = _
  rw [cntGe_apply]
  have hn := nge_le (row A r) (bitcastToFloat (F := Ideal) .f32 c (ix2 r 0))
  have e : IntOp.andi (IntOp.cmpi .sge (BitVec.ofNat 32 (nge (row A r) (bitcastToFloat (F := Ideal) .f32 c (ix2 r 0)))) 64#32) 1#1 = 1#1 ↔ Pass (row A r) (c (ix2 r 0)) := by
    rw [show (64#32) = BitVec.ofNat 32 64 from rfl, cmpi_sge_ofNat (by omega) (by omega), show (1#1) = BitVec.ofBool true from rfl, andi_ofBool]
    show BitVec.ofBool _ = 1#1 ↔ _
    rw [ofBool_eq_one_iff]
    simp only [Bool.and_true, decide_eq_true_eq]
    rfl
  exact if_congr e rfl rfl

/-- The number of the bit a word of the schedule names. -/
def bitNo (b : Fin 8) (s : BitVec 32) : BitVec 32 := Scalar.subi (Scalar.subi 30#32 (Scalar.muli 4#32 (BitVec.ofNat 32 b.val))) s

/-- Four bits of the search, as four trials. -/
theorem step_eq (q : Fin 33) (b : Fin 8) (A : Vec Ideal S1x128x16384 .f32) (p : IVec S128x1 32) :
    step (pt q b) A p =
      let p0 := k0_pay4 (F := Ideal) (pt q b) p
      let p1 := trial A (cand p0 (bitNo b 0#32)) p0 (Scalar.cmpi .sge (bitNo b 0#32) 0#32)
      let p2 := trial A (cand p1 (bitNo b 1#32)) p1 (Scalar.cmpi .sge (bitNo b 1#32) 0#32)
      let p3 := trial A (cand p2 (bitNo b 2#32)) p2 (Scalar.cmpi .sge (bitNo b 2#32) 0#32)
      trial A (cand p3 (bitNo b 3#32)) p3 (Scalar.cmpi .sge (bitNo b 3#32) 0#32) := by
  unfold step k0_pay5 k0_pay18 k0_pay17 k0_pay16 k0_pay15 k0_pay14 k0_pay13
  exact shapeCast_self _ _

/-- Every bit tried before the last column is a bit of the word. -/
theorem bit_ok : ∀ (b : Fin 8), b.val < 7 → ∀ s : Fin 4, Scalar.cmpi .sge (bitNo b (BitVec.ofNat 32 s.val)) 0#32 = 1#1 := by decide +kernel
/-- And is the search's next. -/
theorem bit_word : ∀ (b : Fin 8), b.val < 7 → ∀ s : Fin 4, Scalar.shli 1#32 (Scalar.maxsi (bitNo b (BitVec.ofNat 32 s.val)) 0#32) = bitAt (4 * b.val + s.val) := by decide +kernel

/-- One trial of the schedule, on a row. -/
theorem trial_srch (A : Vec Ideal S1x128x16384 .f32) (p : IVec S128x1 32) (r : Fin 128) (b : Fin 8) (hb : b.val < 7) (s : Fin 4)
    (h : p (ix2 r 0) = srch (Pass (row A r)) (4 * b.val + s.val)) :
    trial A (cand p (bitNo b (BitVec.ofNat 32 s.val))) p (Scalar.cmpi .sge (bitNo b (BitVec.ofNat 32 s.val)) 0#32) (ix2 r 0)
      = srch (Pass (row A r)) (4 * b.val + s.val + 1) := by
  rw [bit_ok b hb s, trial_apply]
  have e : cand p (bitNo b (BitVec.ofNat 32 s.val)) (ix2 r 0) = srch (Pass (row A r)) (4 * b.val + s.val) ||| bitAt (4 * b.val + s.val) := by
    rw [← h, ← bit_word b hb s]; rfl
  rw [e, h]
  rfl

/-- A point searches on from the word that it finds, which at the first column is 0. -/
theorem pay4_row (q : Fin 33) (b : Fin 8) (p : IVec S128x1 32) (h : b.val = 0 → ∀ y, p y = 0#32) : k0_pay4 (F := Ideal) (pt q b) p = p := by
  by_cases h0 : b.val = 0
  · funext y
    rw [h h0 y]
    have : b = 0 := Fin.ext h0
    subst this
    rfl
  · have hb : (pt q b 1).val = b.val := rfl
    unfold k0_pay4
    rw [hb]
    have e : ∀ b : Fin 8, b.val ≠ 0 → Scalar.cmpi .eq (BitVec.ofNat 32 b.val) 0#32 = 0#1 := by decide
    show Scalar.select (Scalar.cmpi .eq (BitVec.ofNat 32 b.val) 0#32) _ p = p
    rw [e b h0]
    rfl

/-- The four bits of one column, on a row. -/
theorem step_row (q : Fin 33) (b : Fin 8) (hb : b.val < 7) (A : Vec Ideal S1x128x16384 .f32) (p : IVec S128x1 32) (r : Fin 128)
    (h4 : k0_pay4 (F := Ideal) (pt q b) p = p) (h : p (ix2 r 0) = srch (Pass (row A r)) (4 * b.val)) :
    step (pt q b) A p (ix2 r 0) = srch (Pass (row A r)) (4 * b.val + 4) := by
  rw [step_eq, h4]
  exact trial_srch A _ r b hb 3 (trial_srch A _ r b hb 2 (trial_srch A _ r b hb 1 (trial_srch A _ r b hb 0 h)))

variable (x : Fin 264 → Vec Ideal S128x768 .f32) (w : Fin 264 → Vec Ideal S768x2048 .f32) (b : Fin 264 → Vec Ideal S1x2048 .f32)

/-- The search state before each column, on a row. -/
theorem pst_row (q : Fin 32) (n : ℕ) (hn : n ≤ 7) (r : Fin 128) :
    pst x w b q n (ix2 r 0) = srch (Pass (row (magBlk x w b q.castSucc) r)) (4 * n) := by
  induction n with
  | zero => rfl
  | succ n ih =>
    unfold pst
    rw [dif_pos (by omega : n < 8)]
    exact step_row q.succ ⟨n, by omega⟩ (by show n < 7; omega) _ _ r (pay4_row _ _ _ fun h y => by
      have : n = 0 := h
      subst this; rfl) (ih (by omega))

/-- The last three bits, as three trials. -/
theorem last2_eq (q : Fin 33) (A : Vec Ideal S1x128x16384 .f32) (p : IVec S128x1 32) :
    last2 (pt q 7) A p =
      let p1 := trial A (cand p 2#32) p 1#1
      trial A (cand p1 1#32) p1 1#1 := by
  unfold last2
  rw [pay4_row q 7 p (fun h => absurd h (by decide))]
  rfl

/-- The threshold is the number whose word was found. -/
theorem thr_eq (q : Fin 33) (A : Vec Ideal S1x128x16384 .f32) (p : IVec S128x1 32) :
    thr (pt q 7) A p = bitcastToFloat .f32 (trial A (cand (last2 (pt q 7) A p) 0#32) (last2 (pt q 7) A p) 1#1) := rfl

/-- One of the last three trials in a row. -/
theorem trial_last (A : Vec Ideal S1x128x16384 .f32) (p : IVec S128x1 32) (r : Fin 128) (s : Fin 3)
    (h : p (ix2 r 0) = srch (Pass (row A r)) (28 + s.val)) :
    trial A (cand p (BitVec.ofNat 32 (2 - s.val))) p 1#1 (ix2 r 0) = srch (Pass (row A r)) (28 + s.val + 1) := by
  have hw : ∀ s : Fin 3, Scalar.shli 1#32 (Scalar.maxsi (BitVec.ofNat 32 (2 - s.val)) 0#32) = bitAt (28 + s.val) := by decide +kernel
  rw [trial_apply]
  have e : cand p (BitVec.ofNat 32 (2 - s.val)) (ix2 r 0) = srch (Pass (row A r)) (28 + s.val) ||| bitAt (28 + s.val) := by
    rw [← h, ← hw s]; rfl
  rw [e, h]
  rfl

/-- The threshold of a row: the number whose word the whole search finds. -/
theorem thr_row (q : Fin 33) (A : Vec Ideal S1x128x16384 .f32) (p : IVec S128x1 32) (r : Fin 128)
    (h : p (ix2 r 0) = srch (Pass (row A r)) 28) :
    thr (pt q 7) A p (ix2 r 0) = FloatOps.ofBits (F := Ideal) .f32 (srch (Pass (row A r)) 31) := by
  rw [thr_eq]
  show FloatOps.ofBits (F := Ideal) .f32 (trial A _ _ 1#1 (ix2 r 0)) = _
  rw [last2_eq]
  exact congrArg _ (trial_last A _ r 2 (trial_last A _ r 1 (trial_last A _ r 0 h)))

end Cert.KernelIdeal.Val
-- ==== Proof.Val.Col.lean ====
/-
  The column search, row by row: the ties at the threshold before a column are counted chunk by chunk, and a bit of the
  column is kept where fewer than the row still needs are before it.
-/
module

public import proofs.«01_k».proof.Proof.Val.Count
public import proofs.«01_k».proof.Proof.Math.Search

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

/-- The count of a mask along 2048 columns. -/
def cntChunk (msk : IVec S128x2048 1) : IVec S128x1 32 :=
  shapeCast S128x1 (multiReductionI .add [1] S128 (extui 32 msk Facts₀.natLt_1_32) 0#32 Facts₀.reduces_S128x2048_S128 rfl) Facts₀.shapeCasts_S128_S128x1

/-- The count of a chunk's mask, row by row. -/
theorem cntChunk_apply (msk : IVec S128x2048 1) (r : Fin 128) :
    cntChunk msk (ix2 r 0) = BitVec.ofNat 32 (Finset.univ.filter fun n : Fin 2048 => msk (ix2 r n) = 1#1).card := by
  rw [← IndicatorCount.fold_addi_setWidth_eq_card (fun n : Fin 2048 => msk (ix2 r n)) Finset.univ]
  pointwise [cntChunk]

/-- The column numbers of a chunk. -/
def colNo (n : BitVec 32) : IVec S128x2048 32 :=
  addi (broadcast S128x2048 (Scalar.muli n 2048#32)) (iota .tc S128x2048 32 [1] Facts₀.iota_S128x2048_d1_w32)

/-- Where a trip's chunk begins, in the count of ties. -/
theorem iv2 : ∀ k : Fin k0_t2_loop.trips, Scalar.muli (Scf.iv 0#32 1#32 k) 2048#32 = BitVec.ofNat 32 (2048 * k.val) := by decide +kernel
/-- Where a trip's chunk begins, in the mask. -/
theorem iv3 : ∀ k : Fin k0_t3_loop.trips, Scalar.muli (Scf.iv 0#32 1#32 k) 2048#32 = BitVec.ofNat 32 (2048 * k.val) := by decide +kernel
/-- The bit that a trip of the column search tries. -/
theorem iv1 : ∀ k : Fin k0_t1_loop.trips, Scalar.shli 1#32 (Scalar.subi 13#32 (Scf.iv 0#32 1#32 k)) = colBit k.val := by decide +kernel

/-- The column numbers of a chunk. -/
theorem colNo_apply (n : BitVec 32) (k : ℕ) (hn : Scalar.muli n 2048#32 = BitVec.ofNat 32 (2048 * k)) (r : Fin 128) (j : Fin 2048) :
    colNo n (ix2 r j) = BitVec.ofNat 32 (2048 * k + j.val) := by
  have e : iota .tc S128x2048 32 [1] Facts₀.iota_S128x2048_d1_w32 (ix2 r j) = BitVec.ofNat 32 j.val := by
    pointwise
  show IntOp.addi (Scalar.muli n 2048#32) (iota .tc S128x2048 32 [1] Facts₀.iota_S128x2048_d1_w32 (ix2 r j)) = _
  rw [e, hn]
  exact (BitVec.ofNat_add _ _).symm

/-- A chunk's row. -/
theorem chunkCast_apply (A : Vec Ideal S1x128x16384 .f32) (k : Fin 8) (r : Fin 128) (j : Fin 2048) :
    shapeCast S128x2048 (chunk k A) Facts₀.shapeCasts_S1x128x2048_S128x2048 (ix2 r j)
      = row A r ⟨2048 * k.val + j.val, by have := k.isLt; have := j.isLt; omega⟩ := by
  refine Eq.trans (b := chunk k A (ix3 0 r j)) ?_ rfl
  pointwise

/-- A column spread over a chunk. -/
theorem bcastChunk_apply {α : Type} (f : S128x1.Idx → α) (r : Fin 128) (n : Fin 2048) :
    broadcastTo S128x2048 f Facts₀.broadcasts_S128x1_S128x2048 (ix2 r n) = f (ix2 r 0) := by
  pointwise

/-- The ties of a chunk before the tried column. -/
def tieMask (v : Vec Ideal S1x128x2048 .f32) (pf : FVec Ideal S128x1 .f32) (n : BitVec 32) (t : IVec S128x1 32) : IVec S128x2048 1 :=
  andi (cmpf .oeq (shapeCast S128x2048 v Facts₀.shapeCasts_S1x128x2048_S128x2048) (broadcastTo S128x2048 pf Facts₀.broadcasts_S128x1_S128x2048))
    (cmpi .slt (colNo n) (broadcastTo S128x2048 t Facts₀.broadcasts_S128x1_S128x2048))

/-- The ties of a chunk before a column. -/
theorem tieMask_apply (A : Vec Ideal S1x128x16384 .f32) (pf : FVec Ideal S128x1 .f32) (n : BitVec 32) (k : Fin 8)
    (hn : Scalar.muli n 2048#32 = BitVec.ofNat 32 (2048 * k.val)) (t : IVec S128x1 32) (r : Fin 128) (ht : (t (ix2 r 0)).toNat ≤ 16384) (j : Fin 2048) :
    tieMask (chunk k A) pf n t (ix2 r j) = 1#1 ↔ row A r ⟨2048 * k.val + j.val, by have := k.isLt; have := j.isLt; omega⟩ = pf (ix2 r 0)
      ∧ 2048 * k.val + j.val < (t (ix2 r 0)).toNat := by
  show IntOp.andi (BitVec.ofBool (decide (shapeCast S128x2048 (chunk k A) Facts₀.shapeCasts_S1x128x2048_S128x2048 (ix2 r j)
      = broadcastTo S128x2048 pf Facts₀.broadcasts_S128x1_S128x2048 (ix2 r j))))
    (IntOp.cmpi .slt (colNo n (ix2 r j)) (broadcastTo S128x2048 t Facts₀.broadcasts_S128x1_S128x2048 (ix2 r j))) = 1#1 ↔ _
  have hk := k.isLt
  have hj := j.isLt
  have e : t (ix2 r 0) = BitVec.ofNat 32 (t (ix2 r 0)).toNat := by simp
  rw [chunkCast_apply, bcastChunk_apply, bcastChunk_apply, colNo_apply n k.val hn, e, cmpi_slt_ofNat (by omega) (by omega), andi_ofBool, ofBool_eq_one_iff]
  simp

/-- The ties before column `l` among the first `2048 n` columns. -/
def tiesIn (a : Fin 16384 → EReal) (f : EReal) (l n : ℕ) : ℕ := (Finset.univ.filter fun m : Fin 16384 => m.val < 2048 * n ∧ a m = f ∧ m.val < l).card

/-- The ties in one chunk more. -/
theorem tiesIn_succ (a : Fin 16384 → EReal) (f : EReal) (l : ℕ) (k : Fin 8) :
    tiesIn a f l (k.val + 1) = tiesIn a f l k.val
      + (Finset.univ.filter fun j : Fin 2048 => a ⟨2048 * k.val + j.val, by have := k.isLt; have := j.isLt; omega⟩ = f ∧ 2048 * k.val + j.val < l).card := by
  have hk := k.isLt
  let g : Fin 2048 → Fin 16384 := fun j => ⟨2048 * k.val + j.val, by have := j.isLt; omega⟩
  have hg : Function.Injective g := fun i j h => Fin.ext (by have := congrArg Fin.val h; simp only [g] at this; omega)
  unfold tiesIn
  rw [← Finset.card_image_of_injective _ hg, ← Finset.card_union_of_disjoint]
  · refine congrArg Finset.card (Finset.ext fun m => ?_)
    simp only [Finset.mem_union, Finset.mem_filter, Finset.mem_univ, true_and, Finset.mem_image]
    constructor
    · rintro ⟨h, h', h''⟩
      by_cases hm : m.val < 2048 * k.val
      · exact .inl ⟨hm, h', h''⟩
      · have em : g ⟨m.val - 2048 * k.val, by omega⟩ = m := Fin.ext (by show 2048 * k.val + (m.val - 2048 * k.val) = m.val; omega)
        refine .inr ⟨⟨m.val - 2048 * k.val, by omega⟩, ⟨?_, ?_⟩, em⟩
        · exact (congrArg a em).trans h'
        · show 2048 * k.val + (m.val - 2048 * k.val) < l; omega
    · rintro (⟨h, h', h''⟩ | ⟨j, ⟨h, h'⟩, rfl⟩)
      · exact ⟨by omega, h', h''⟩
      · exact ⟨by show 2048 * k.val + j.val < _; have := j.isLt; omega, h, h'⟩
  · refine Finset.disjoint_left.mpr fun m hm hm' => ?_
    simp only [Finset.mem_filter, Finset.mem_univ, true_and, Finset.mem_image] at hm hm'
    obtain ⟨j, _, rfl⟩ := hm'
    have : 2048 * k.val + j.val < 2048 * k.val := hm.1
    omega

/-- The ties in all chunks. -/
theorem tiesIn_all (a : Fin 16384 → EReal) (f : EReal) (l : ℕ) : tiesIn a f l 8 = neq a f l := by
  unfold tiesIn neq
  refine congrArg Finset.card (Finset.filter_congr fun m _ => ?_)
  have := m.isLt
  exact ⟨fun h => h.2, fun h => ⟨by omega, h⟩⟩

/-- What a trip of the count adds. -/
theorem pay9_eq (pf : FVec Ideal S128x1 .f32) (k : Fin k0_t1_loop.trips) (t : IVec S128x1 32) (n : Fin k0_t2_loop.trips) (acc : IVec S128x1 32) (v : Vec Ideal S1x128x2048 .f32) :
    k0_pay9 (F := Ideal) pf k t n acc v = addi acc (cntChunk (tieMask v pf (Scf.iv 0#32 1#32 n) (k0_pay7 k t))) := rfl

/-- The count of one trial after `n` chunks, on a row. -/
theorem cnt_row (A : Vec Ideal S1x128x16384 .f32) (pf : FVec Ideal S128x1 .f32) (k : Fin k0_t1_loop.trips) (t : IVec S128x1 32) (r : Fin 128)
    (ht : (k0_pay7 k t (ix2 r 0)).toNat ≤ 16384) (n : ℕ) (hn : n ≤ 8) :
    cnt A pf k t n (ix2 r 0) = BitVec.ofNat 32 (tiesIn (row A r) (pf (ix2 r 0)) (k0_pay7 k t (ix2 r 0)).toNat n) := by
  induction n with
  | zero =>
    have : tiesIn (row A r) (pf (ix2 r 0)) (k0_pay7 k t (ix2 r 0)).toNat 0 = 0 := by
      unfold tiesIn
      simp
    rw [this]
    rfl
  | succ n ih =>
    unfold cnt
    rw [dif_pos (by rw [trips2]; omega), pay9_eq]
    show IntOp.addi (cnt A pf k t n (ix2 r 0)) (cntChunk _ (ix2 r 0)) = _
    rw [ih (by omega), cntChunk_apply, tiesIn_succ _ _ _ ⟨n, by omega⟩, BitVec.ofNat_add]
    refine congrArg (fun s : Finset (Fin 2048) => BitVec.ofNat 32 _ + BitVec.ofNat 32 s.card) (Finset.filter_congr fun j _ => ?_)
    exact tieMask_apply A pf _ ⟨n, by omega⟩ (iv2 _) _ r ht j

/-- The column search after `n` bits, on a row that needs `N` of its ties. -/
theorem col_row (A : Vec Ideal S1x128x16384 .f32) (pf : FVec Ideal S128x1 .f32) (nd : IVec S128x1 32) (r : Fin 128) (N : ℕ) (hN : N ≤ 64)
    (hnd : nd (ix2 r 0) = BitVec.ofNat 32 N) (n : ℕ) (hn : n ≤ 14) :
    col A pf nd n (ix2 r 0) = csrch (fun k => neq (row A r) (pf (ix2 r 0)) k < N) n := by
  induction n with
  | zero => rfl
  | succ n ih =>
    have ih := ih (by omega)
    unfold col
    have hlt : n < k0_t1_loop.trips := by rw [trips1]; omega
    rw [dif_pos hlt]
    have e7 : k0_pay7 ⟨n, hlt⟩ (col A pf nd n) (ix2 r 0) = csrch (fun k => neq (row A r) (pf (ix2 r 0)) k < N) n ||| colBit n := by
      rw [← ih, ← iv1 ⟨n, hlt⟩]; rfl
    have ht : (k0_pay7 ⟨n, hlt⟩ (col A pf nd n) (ix2 r 0)).toNat ≤ 16384 := by
      rw [e7, BitVec.toNat_or]
      have hb : ∀ k : Fin 14, (colBit k.val).toNat < 2 ^ 14 := by decide
      have := Nat.or_lt_two_pow (csrch_lt (fun k => neq (row A r) (pf (ix2 r 0)) k < N) n (by omega)) (hb ⟨n, by omega⟩)
      exact this.le
    show (if IntOp.cmpi .slt (cnt A pf ⟨n, hlt⟩ (col A pf nd n) k0_t2_loop.trips (ix2 r 0)) (nd (ix2 r 0)) = 1#1 then k0_pay7 ⟨n, hlt⟩ (col A pf nd n) (ix2 r 0) else col A pf nd n (ix2 r 0)) = _
    rw [trips2, cnt_row A pf _ _ r ht 8 le_rfl, tiesIn_all, hnd, ih, e7]
    have hq := neq_le (row A r) (pf (ix2 r 0)) (csrch (fun k => neq (row A r) (pf (ix2 r 0)) k < N) n ||| colBit n).toNat
    have key := cmpi_slt_ofNat_eq_one_iff (w := 32) (a := neq (row A r) (pf (ix2 r 0)) (csrch (fun k => neq (row A r) (pf (ix2 r 0)) k < N) n ||| colBit n).toNat)
      (b := N) (by omega) (by omega)
    rw [csrch]
    by_cases h : neq (row A r) (pf (ix2 r 0)) (csrch (fun k => neq (row A r) (pf (ix2 r 0)) k < N) n ||| colBit n).toNat < N
    · rw [if_pos (key.mpr h), if_pos h]
    · rw [if_neg (fun h' => h (key.mp h')), if_neg h]

end Cert.KernelIdeal.Val
-- ==== Proof.Val.Over.lean ====
/-
  How many ties each row needs, and that where the column search is left out every row has at most 64 entries at or
  over its threshold.
-/
module

public import proofs.«01_k».proof.Proof.Val.Count

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

/-- The ties needed, as written in the kernel. -/
theorem need_eq (q : Fin 33) (A : Vec Ideal S1x128x16384 .f32) (p : IVec S128x1 32) :
    need (pt q 7) A p = subi (broadcast S128x1 64#32) (cntGt A (thr (pt q 7) A p)) := rfl

/-- The ties that a row needs: 64 less those over its threshold. -/
theorem need_row (q : Fin 33) (A : Vec Ideal S1x128x16384 .f32) (p : IVec S128x1 32) (r : Fin 128)
    (h : ngt (row A r) (thr (pt q 7) A p (ix2 r 0)) ≤ 64) :
    need (pt q 7) A p (ix2 r 0) = BitVec.ofNat 32 (64 - ngt (row A r) (thr (pt q 7) A p (ix2 r 0))) := by
  rw [need_eq]
  show IntOp.subi 64#32 (cntGt A _ (ix2 r 0)) = _
  rw [cntGt_apply]
  generalize ngt (row A r) (thr (pt q 7) A p (ix2 r 0)) = k at h
  have : ∀ k : Fin 65, IntOp.subi 64#32 (BitVec.ofNat 32 k.val) = BitVec.ofNat 32 (64 - k.val) := by decide +kernel
  exact this ⟨k, by omega⟩

/-- One where a row has more than 64 entries at or over its threshold, else zero. -/
def flag (A : Vec Ideal S1x128x16384 .f32) (pf : FVec Ideal S128x1 .f32) : FVec Ideal S128x1 .f32 :=
  select (cmpi .sgt (cntGe A pf) (broadcast S128x1 64#32)) (broadcast S128x1 (Scalar.ofBits (F := Ideal) .f32 0x3F800000#32))
    (broadcast S128x1 (Scalar.ofBits (F := Ideal) .f32 0x00000000#32))

/-- The greatest entry of a column of 128. -/
def top (X : FVec Ideal S128x1 .f32) : Ideal .f32 :=
  extractAt ![0, 0, 0] (shapeCast S1x1x1 (multiReduction .maximumf [1, 2] S1 (shapeCast S1x128x1 X Facts₀.shapeCasts_S128x1_S1x128x1) 0xFF800000#32
    Facts₀.reduces_S1x128x1_S1 (.inl rfl) rfl) Facts₀.shapeCasts_S1_S1x1x1) Facts₀.inpos_S1x1x1_p0_0_0

/-- No entry is over the column's greatest. -/
theorem le_top (X : FVec Ideal S128x1 .f32) (r : Fin 128) : (X (ix2 r 0) : EReal) ≤ top X := by
  have e : shapeCast S1x128x1 X Facts₀.shapeCasts_S128x1_S1x128x1 (ix3 0 r 0) = X (ix2 r 0) := by pointwise
  unfold top
  show _ ≤ shapeCast S1x1x1 _ Facts₀.shapeCasts_S1_S1x1x1 (ix3 0 0 0)
  have e1 : ∀ Y : FVec Ideal S1 .f32, shapeCast S1x1x1 Y Facts₀.shapeCasts_S1_S1x1x1 (ix3 0 0 0) = Y (ix1 0) := fun Y => by pointwise
  rw [e1]
  refine le_trans ?_ (multiReduction_maximumf_eq_fold (F := Ideal) (shapeCast S1x128x1 X Facts₀.shapeCasts_S128x1_S1x128x1) 0xFF800000#32
    Facts₀.reduces_S1x128x1_S1 (.inl rfl) rfl (ix1 0)).ge
  refine (Finset.le_fold_max _).mpr (.inr ⟨ix3 0 r 0, Finset.mem_filter.mpr ⟨Finset.mem_univ _, ?_⟩, e.ge⟩)
  funext b
  match b with
  | ⟨0, _⟩ => exact Subsingleton.elim (α := Fin 1) _ _

/-- The test of the conditional, as written in the kernel. -/
theorem over_eq (q : Fin 33) (A : Vec Ideal S1x128x16384 .f32) (p : IVec S128x1 32) :
    over (pt q 7) A p = Scalar.cmpi .ne (Scalar.extui (Scalar.cmpf (F := Ideal) .ogt (top (flag A (thr (pt q 7) A p))) (Scalar.ofBits (F := Ideal) .f32 0x00000000#32)) : BitVec 32) 0#32 := rfl

/-- The test passes where the greatest flag is positive. -/
theorem above_zero (z : Ideal .f32) (h : (0 : EReal) < z) :
    Scalar.cmpi .ne (Scalar.extui (Scalar.cmpf (F := Ideal) .ogt z (Scalar.ofBits (F := Ideal) .f32 0x00000000#32)) : BitVec 32) 0#32 = 1#1 := by
  have hc : Scalar.cmpf (F := Ideal) .ogt z (Scalar.ofBits (F := Ideal) .f32 0x00000000#32) = 1#1 := by
    show BitVec.ofBool (decide ((Ideal.ofBits .f32 0x00000000#32 : EReal) < z)) = 1#1
    rw [ofBool_decide_eq_one_iff, Ideal.ofBits_zero_f32]
    exact h
  rw [hc]
  decide

/-- Where some row has more than 64, the column search is taken. -/
theorem over_of (q : Fin 33) (A : Vec Ideal S1x128x16384 .f32) (p : IVec S128x1 32) (r : Fin 128)
    (h : 64 < nge (row A r) (thr (pt q 7) A p (ix2 r 0))) : over (pt q 7) A p = 1#1 := by
  have hf : flag A (thr (pt q 7) A p) (ix2 r 0) = (1 : EReal) := by
    show (if IntOp.cmpi .sgt (cntGe A (thr (pt q 7) A p) (ix2 r 0)) 64#32 = 1#1 then Scalar.ofBits (F := Ideal) .f32 0x3F800000#32 else Scalar.ofBits (F := Ideal) .f32 0x00000000#32) = (1 : EReal)
    rw [cntGe_apply]
    have hn := nge_le (row A r) (thr (pt q 7) A p (ix2 r 0))
    have hs : IntOp.cmpi .sgt (BitVec.ofNat 32 (nge (row A r) (thr (pt q 7) A p (ix2 r 0)))) 64#32 = 1#1 :=
      (cmpi_sgt_ofNat_eq_one_iff (w := 32) (b := 64) (by omega) (by omega)).mpr h
    rw [if_pos hs]
    exact Ideal.ofBits_one_f32
  have hpos : (0 : EReal) < top (flag A (thr (pt q 7) A p)) := lt_of_lt_of_le zero_lt_one (hf ▸ le_top _ r)
  exact (over_eq q A p).trans (above_zero _ hpos)

end Cert.KernelIdeal.Val
-- ==== Proof.Val.Mask.lean ====
/-
  The masked block, entry by entry: the magnitude times the sign where the entry is among its row's first 64, else zero.
-/
module

public import proofs.«01_k».proof.Proof.Val.Step
public import proofs.«01_k».proof.Proof.Val.Col
public import proofs.«01_k».proof.Proof.Val.Over

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

/-- The threshold of a row: the number whose word the search finds. -/
def fOf (a : Fin 16384 → EReal) : EReal := FloatOps.ofBits (F := Ideal) .f32 (srch (Pass a) 31)

/-- An f32 number tells the first 64 of a row from the rest. -/
def Told (a : Fin 16384 → EReal) : Prop := 64 ≤ nge a (fOf a) ∧ (ngt a (fOf a) < 64 ∨ nge a (fOf a) = 64)

/-- Which entries of a chunk are kept. -/
theorem kept_iff (A : Vec Ideal S1x128x16384 .f32) (pf : FVec Ideal S128x1 .f32) (t : IVec S128x1 32) (n : BitVec 32) (k : Fin 8)
    (hn : Scalar.muli n 2048#32 = BitVec.ofNat 32 (2048 * k.val)) (r : Fin 128) (ht : (t (ix2 r 0)).toNat ≤ 16384) (j : Fin 2048) :
    (ori (cmpf .ogt (shapeCast S128x2048 (chunk k A) Facts₀.shapeCasts_S1x128x2048_S128x2048) (broadcastTo S128x2048 pf Facts₀.broadcasts_S128x1_S128x2048))
      (andi (cmpf .oeq (shapeCast S128x2048 (chunk k A) Facts₀.shapeCasts_S1x128x2048_S128x2048) (broadcastTo S128x2048 pf Facts₀.broadcasts_S128x1_S128x2048))
        (cmpi .sle (colNo n) (broadcastTo S128x2048 t Facts₀.broadcasts_S128x1_S128x2048)))) (ix2 r j) = 1#1
    ↔ pf (ix2 r 0) < row A r ⟨2048 * k.val + j.val, by have := k.isLt; have := j.isLt; omega⟩
      ∨ (row A r ⟨2048 * k.val + j.val, by have := k.isLt; have := j.isLt; omega⟩ = pf (ix2 r 0) ∧ 2048 * k.val + j.val ≤ (t (ix2 r 0)).toNat) := by
  show IntOp.ori (BitVec.ofBool (decide (broadcastTo S128x2048 pf Facts₀.broadcasts_S128x1_S128x2048 (ix2 r j)
        < shapeCast S128x2048 (chunk k A) Facts₀.shapeCasts_S1x128x2048_S128x2048 (ix2 r j))))
      (IntOp.andi (BitVec.ofBool (decide (shapeCast S128x2048 (chunk k A) Facts₀.shapeCasts_S1x128x2048_S128x2048 (ix2 r j)
          = broadcastTo S128x2048 pf Facts₀.broadcasts_S128x1_S128x2048 (ix2 r j))))
        (IntOp.cmpi .sle (colNo n (ix2 r j)) (broadcastTo S128x2048 t Facts₀.broadcasts_S128x1_S128x2048 (ix2 r j)))) = 1#1 ↔ _
  have hk := k.isLt
  have hj := j.isLt
  have e : t (ix2 r 0) = BitVec.ofNat 32 (t (ix2 r 0)).toNat := by simp
  rw [chunkCast_apply, bcastChunk_apply, bcastChunk_apply, colNo_apply n k.val hn, e, cmpi_sle_ofNat (by omega) (by omega), andi_ofBool, ori_ofBool, ofBool_eq_one_iff]
  simp

/-- A sign byte read as a number. -/
def sgnOf (s : BitVec 8) : EReal := FloatOps.sitofp (F := Ideal) .f32 s

/-- The masked block at an entry. -/
theorem masked_apply (A : Vec Ideal S1x128x16384 .f32) (S : Vec Ideal S1x128x16384 .i8) (pf : FVec Ideal S128x1 .f32) (t : IVec S128x1 32)
    (r : Fin 128) (ht : (t (ix2 r 0)).toNat ≤ 16384) (c : Fin 16384) :
    masked A S pf t (ix2 r c) = if pf (ix2 r 0) < row A r c ∨ (row A r c = pf (ix2 r 0) ∧ c.val ≤ (t (ix2 r 0)).toNat)
      then row A r c * sgnOf (S (ix3 0 r c)) else 0 := by
  have hc := c.isLt
  let k : Fin 8 := ⟨c.val / 2048, by omega⟩
  let j : Fin 2048 := ⟨c.val % 2048, Nat.mod_lt _ (by decide)⟩
  have ec : (⟨2048 * k.val + j.val, by have := k.isLt; have := j.isLt; omega⟩ : Fin 16384) = c := Fin.ext (by show 2048 * (c.val / 2048) + c.val % 2048 = c.val; omega)
  have ecv : 2048 * k.val + j.val = c.val := congrArg Fin.val ec
  have hS : shapeCast S128x2048 (chunk k S) Facts₀.shapeCasts_S1x128x2048_S128x2048 (ix2 r j) = S (ix3 0 r c) := by
    refine Eq.trans (b := chunk k S (ix3 0 r j)) (by pointwise) ?_
    exact congrArg (fun n => S (ix3 0 r n)) ec
  have hk := kept_iff A pf t (Scf.iv 0#32 1#32 (Fin.cast trips3.symm k)) k (iv3 _) r ht j
  rw [ec, ecv] at hk
  have hA := chunkCast_apply A k r j
  rw [ec] at hA
  show (if _ = 1#1 then (shapeCast S128x2048 (chunk k A) Facts₀.shapeCasts_S1x128x2048_S128x2048 (ix2 r j) : EReal)
      * sgnOf (shapeCast S128x2048 (chunk k S) Facts₀.shapeCasts_S1x128x2048_S128x2048 (ix2 r j)) else Ideal.ofBits .f32 0x00000000#32) = _
  rw [hA, hS, Ideal.ofBits_zero_f32]
  by_cases h : pf (ix2 r 0) < row A r c ∨ (row A r c = pf (ix2 r 0) ∧ c.val ≤ (t (ix2 r 0)).toNat)
  · rw [if_pos h]; exact if_pos (hk.mpr h)
  · rw [if_neg h]; exact if_neg (fun h' => h (hk.mp h'))

/-- The block written keeps each row's first 64 entries. -/
theorem outVal_apply (q : Fin 33) (A : Vec Ideal S1x128x16384 .f32) (S : Vec Ideal S1x128x16384 .i8) (p : IVec S128x1 32)
    (hp : ∀ r : Fin 128, p (ix2 r 0) = srch (Pass (row A r)) 28) (hT : ∀ r : Fin 128, Told (row A r)) (r : Fin 128) (c : Fin 16384) :
    outVal (pt q 7) A S p (ix2 r c) = if rank (row A r) c < 64 then row A r c * sgnOf (S (ix3 0 r c)) else 0 := by
  have hthr : ∀ r : Fin 128, thr (pt q 7) A p (ix2 r 0) = fOf (row A r) := fun r => thr_row q A p r (hp r)
  obtain ⟨hge, hcut⟩ := hT r
  have hc := c.isLt
  unfold outVal lastCol
  by_cases ho : over (pt q 7) A p = 1#1
  · rw [if_pos ho]
    have hgt : ngt (row A r) (fOf (row A r)) ≤ 64 := by
      rcases hcut with h | h
      · exact h.le
      · exact h ▸ ngt_le_nge _ _
    have hnd := need_row q A p r (by rw [hthr]; exact hgt)
    rw [hthr] at hnd
    have hcol := col_row A (thr (pt q 7) A p) (need (pt q 7) A p) r (64 - ngt (row A r) (fOf (row A r))) (by omega) hnd 14 le_rfl
    rw [hthr] at hcol
    have hlt := csrch_lt (fun k => neq (row A r) (fOf (row A r)) k < 64 - ngt (row A r) (fOf (row A r))) 14 le_rfl
    rw [trips1, masked_apply A S _ _ r (by rw [hcol]; omega) c, hthr, hcol]
    have key : (fOf (row A r) < row A r c ∨ (row A r c = fOf (row A r) ∧ c.val ≤ (csrch (fun k => neq (row A r) (fOf (row A r)) k < 64 - ngt (row A r) (fOf (row A r))) 14).toNat))
        ↔ rank (row A r) c < 64 := by
      rw [rank_lt_iff (row A r) (fOf (row A r)) 64 hge hcut c]
      refine or_congr_right (and_congr_right fun he => ?_)
      by_cases h64 : ngt (row A r) (fOf (row A r)) < 64
      · have h0 : neq (row A r) (fOf (row A r)) 0 = 0 := by
          unfold neq
          simp
        rw [le_csrch_iff (fun k => neq (row A r) (fOf (row A r)) k < 64 - ngt (row A r) (fOf (row A r)))
          (fun k l hkl hl => lt_of_le_of_lt (neq_mono _ _ hkl) hl) (by show neq _ _ 0 < _; rw [h0]; omega) c.val hc]
        show neq _ _ _ < _ ↔ _
        omega
      · exfalso
        have h1 := ngt_add_neq_lt (row A r) (fOf (row A r)) c he
        rcases hcut with h | h <;> omega
    by_cases h : rank (row A r) c < 64
    · rw [if_pos h, if_pos (key.mpr h)]
    · rw [if_neg h, if_neg (fun h' => h (key.mp h'))]
  · rw [if_neg ho]
    have hle : nge (row A r) (fOf (row A r)) ≤ 64 := by
      by_contra hgt
      exact ho (over_of q A p r (by rw [hthr]; omega))
    have ht : (k0_pay11 (ix2 (n0 := 128) (n1 := 1) r 0)).toNat = 16384 := rfl
    rw [masked_apply A S _ _ r ht.le c, hthr]
    have key := rank_lt_iff_of_eq (row A r) (fOf (row A r)) 64 (le_antisymm hle hge) c
    by_cases h : rank (row A r) c < 64
    · rw [if_pos h, if_pos]
      rcases key.mp h with h | h
      · exact .inl h
      · exact .inr ⟨h, by rw [ht]; omega⟩
    · rw [if_neg h, if_neg]
      exact fun h' => h (key.mpr (h'.imp id (·.1)))

end Cert.KernelIdeal.Val
-- ==== Proof.Val.Code.lean ====
/-
  The code's entries: the product and its bias, its magnitude, its sign byte; the magnitude times the sign is the entry.
-/
module

public import proofs.«01_k».proof.Proof.Val.Mask

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

/-- A real number's integer, clamped to a byte. -/
theorem fptosi_real (r : ℝ) :
    Ideal.fptosi 8 (r : EReal) = BitVec.ofInt 8 (max (-128) (min 127 (if 0 ≤ r then ⌊r⌋ else ⌈r⌉))) := rfl
/-- 1 as a byte. -/
theorem fptosi_one : Ideal.fptosi 8 1 = 1#8 := by
  rw [← EReal.coe_one, fptosi_real]
  simp
/-- -1 as a byte. -/
theorem fptosi_neg_one : Ideal.fptosi 8 (-1) = -1#8 := by
  have h : ¬ (0 : ℝ) ≤ -1 := by norm_num
  have hc : ⌈(-1 : ℝ)⌉ = -1 := by simpa using Int.ceil_intCast (R := ℝ) (-1)
  rw [show (-1 : EReal) = ((-1 : ℝ) : EReal) by simp, fptosi_real, if_neg h, hc]
  rfl
/-- 0 as a byte. -/
theorem fptosi_zero : Ideal.fptosi 8 0 = 0#8 := by
  rw [← EReal.coe_zero, fptosi_real]
  simp

/-- A number is its magnitude times its sign, the sign kept as a byte. -/
theorem mag_mul_sgn (z : EReal) :
    max z (-z) * sgnOf (Ideal.fptosi 8 (if 0 < max z (-z) then (if z < 0 then -1 else 1) else z)) = z := by
  have hs : ∀ s : BitVec 8, sgnOf s = ((s.toInt : ℝ) : EReal) := fun s => rfl
  rcases lt_trichotomy z 0 with h | h | h
  · have hn : 0 < -z := EReal.neg_pos.mpr h
    have hm : max z (-z) = -z := max_eq_right (h.le.trans hn.le)
    rw [hm, if_pos hn, if_pos h, fptosi_neg_one, hs, show (-1#8).toInt = -1 from rfl]
    simp
  · subst h
    rw [hs]
    simp [fptosi_zero]
  · have hn : -z < 0 := EReal.neg_lt_zero.mpr h
    have hm : max z (-z) = z := max_eq_left (hn.le.trans h.le)
    rw [hm, if_pos h, if_neg h.not_gt, fptosi_one, hs, show (1#8).toInt = 1 from rfl]
    simp

variable (x : Vec Ideal S128x768 .f32) (w : Vec Ideal S768x2048 .f32) (b : Vec Ideal S1x2048 .f32)

/-- An entry of the code, of a block of rows and a block of columns. -/
def blkCode (r : Fin 128) (j : Fin 2048) : EReal := (∑ k : Fin 768, (x (ix2 r k) : EReal) * w (ix2 k j)) + b (ix2 0 j)

/-- The code at an entry. -/
theorem pay1_apply (r : Fin 128) (j : Fin 2048) : k0_pay1 (F := Ideal) x w b (ix2 r j) = blkCode x w b r j := by
  unfold blkCode
  pointwise [k0_pay1]

/-- The magnitude stored at an entry. -/
theorem pay2_apply (r : Fin 128) (j : Fin 2048) :
    k0_pay2 (F := Ideal) x w b (ix3 0 r j) = max (blkCode x w b r j) (-(blkCode x w b r j)) := by
  rw [← pay1_apply]
  unfold k0_pay2
  refine Eq.trans (b := absf (k0_pay1 (F := Ideal) x w b) (ix2 r j)) ?_ rfl
  pointwise

/-- The sign stored at an entry. -/
theorem pay3_apply (r : Fin 128) (j : Fin 2048) :
    k0_pay3 (F := Ideal) x w b (ix3 0 r j) = Ideal.fptosi 8 (if 0 < max (blkCode x w b r j) (-(blkCode x w b r j))
      then (if blkCode x w b r j < 0 then -1 else 1) else blkCode x w b r j) := by
  rw [← pay1_apply]
  unfold k0_pay3
  generalize k0_pay1 (F := Ideal) x w b = z
  have h1 : Ideal.ofBits FTy.f32 0xBF800000#32 = -1 := by
    rw [show (-1 : EReal) = ((-(1 : ℝ) : ℝ) : EReal) by norm_num]
    simp [Ideal.ofBits, Ideal.ieee, -EReal.coe_mul, -EReal.coe_neg]; norm_num
  pointwise
  rw [h1]
  rfl

/-- The magnitude stored times the sign stored is the code. -/
theorem blk_mul (r : Fin 128) (j : Fin 2048) :
    (k0_pay2 (F := Ideal) x w b (ix3 0 r j) : EReal) * sgnOf (k0_pay3 (F := Ideal) x w b (ix3 0 r j)) = blkCode x w b r j := by
  rw [pay2_apply, pay3_apply, mag_mul_sgn]

end Cert.KernelIdeal.Val
-- ==== Proof.Val.Block.lean ====
/-
  A block of the first launch's result at an entry: the code where its magnitude ranks among its row's first 64, else 0.
-/
module

public import proofs.«01_k».proof.Proof.Val.Code

@[expose] public section

set_option maxRecDepth 16384

noncomputable section

namespace Cert.KernelIdeal.Val

open Cert.KernelIdeal Cert.KernelIdeal.Gen Cert.KernelIdeal.Enc
open Idealize.ShloMosaic Idealize.ShloMosaic.WordCmp Cert.TopRank Classical

variable (x : Fin 264 → Vec Ideal S128x768 .f32) (w : Fin 264 → Vec Ideal S768x2048 .f32) (b : Fin 264 → Vec Ideal S1x2048 .f32)

/-- The code of block `q` at row `r` of the block, column `n`. -/
def zAt (q : Fin 33) (r : Fin 128) (n : Fin 16384) : EReal :=
  blkCode (x (pn q (colOf (ix3 0 r n)))) (w (pn q (colOf (ix3 0 r n)))) (b (pn q (colOf (ix3 0 r n)))) r ⟨n.val % 2048, Nat.mod_lt _ (by decide)⟩

/-- A block's magnitudes. -/
theorem magBlk_apply (q : Fin 33) (r : Fin 128) (n : Fin 16384) :
    magBlk x w b q (ix3 0 r n) = max (zAt x w b q r n) (-(zAt x w b q r n)) := pay2_apply _ _ _ r _

/-- A row of them. -/
theorem row_magBlk (q : Fin 33) (r : Fin 128) :
    row (magBlk x w b q) r = fun n => max (zAt x w b q r n) (-(zAt x w b q r n)) := funext fun n => magBlk_apply x w b q r n

/-- A block's magnitude times its sign is its code. -/
theorem mag_mul (q : Fin 33) (r : Fin 128) (n : Fin 16384) :
    (magBlk x w b q (ix3 0 r n) : EReal) * sgnOf (sgnBlk x w b q (ix3 0 r n)) = zAt x w b q r n := blk_mul _ _ _ r _

/-- The block's entry. -/
theorem outBlk_apply (q : Fin 32) (hT : ∀ r : Fin 128, Told (fun n => max (zAt x w b q.castSucc r n) (-(zAt x w b q.castSucc r n)))) (r : Fin 128) (c : Fin 16384) :
    outBlk x w b q (ix2 r c) = if rank (fun n => max (zAt x w b q.castSucc r n) (-(zAt x w b q.castSucc r n))) c < 64 then zAt x w b q.castSucc r c else 0 := by
  unfold outBlk
  rw [outVal_apply q.succ (magBlk x w b q.castSucc) (sgnBlk x w b q.castSucc) (pst x w b q 7)
    (fun r => pst_row x w b q 7 le_rfl r) (fun r => by rw [row_magBlk]; exact hT r) r c, row_magBlk]
  by_cases h : rank (fun n => max (zAt x w b q.castSucc r n) (-(zAt x w b q.castSucc r n))) c < 64
  · rw [if_pos h, if_pos h]; exact (congrArg (· * _) (magBlk_apply x w b q.castSucc r c).symm).trans (mag_mul x w b q.castSucc r c)
  · rw [if_neg h, if_neg h]

end Cert.KernelIdeal.Val
-- ==== Proof.Math.Top.lean ====
/-
  What `Host.topK` along the columns of a matrix of extended reals returns: the entries at the sorted positions, and the positions.
-/
module

public import proofs.«01_k».proof.Proof.Math.Rank
public import Idealize.ShloMosaic.PureOps.ShapeOps
public import Idealize.ShloMosaic.Lib.Routing.OpsPair
public import Idealize.ShloMosaic.Lib.Pointwise
public import Idealize.ShloMosaic.PureOps.Ideal

@[expose] public section

set_option maxRecDepth 16384

noncomputable section

namespace Cert.TopRank

open Idealize.ShloMosaic Idealize.ShloMosaic.Routing

variable {R C K : ℕ} (a : FVec Ideal (shape2 R C) .f32) (r : Fin R)

/-- Row `r`'s order for the sort: the greater entry first. -/
def befR (m n : Fin C) : Bool := FloatOps.cmpfTotal (F := Ideal) (φ := .f32) .gt (a (ix2 r m)) (a (ix2 r n)) == 1#1

/-- The comparator is the order of the entries. -/
theorem befR_iff (m n : Fin C) : befR a r m n = true ↔ (a (ix2 r n) : EReal) < a (ix2 r m) := by
  unfold befR
  rw [beq_iff_eq]
  exact WordCmp.ofBool_decide_eq_one_iff _

/-- A position moved along its row. -/
theorem along_ix2 (j m : Fin C) : Shape.Idx.along (ix2 r j : (shape2 R C).Idx) (1 : Fin 2) m = ix2 r m := by
  funext b
  match b with
  | ⟨0, _⟩ => rfl
  | ⟨1, _⟩ => rfl

/-- A sort of two arrays along the columns reads both at the sorted position. -/
theorem sort2_at (y : IVec (shape2 R C) 32) (j : Fin C) :
    (Host.sort2 (shape2 R C) 1 (fun l q => FloatOps.cmpfTotal (F := Ideal) (φ := .f32) .gt l.1 q.1) a y).1 (ix2 r j) = a (ix2 r (sortedFrom (befR a r) j))
    ∧ (Host.sort2 (shape2 R C) 1 (fun l q => FloatOps.cmpfTotal (F := Ideal) (φ := .f32) .gt l.1 q.1) a y).2 (ix2 r j) = y (ix2 r (sortedFrom (befR a r) j)) := by
  have h2 : (1 : ℕ) < (shape2 R C).rank := Nat.one_lt_two
  have hb : ∀ k k' : Fin C, (FloatOps.cmpfTotal (F := Ideal) (φ := .f32) .gt (a (Shape.Idx.along (ix2 r j : (shape2 R C).Idx) (1 : Fin 2) k))
      (a (Shape.Idx.along (ix2 r j : (shape2 R C).Idx) (1 : Fin 2) k')) == 1#1) = befR a r k k' := fun k k' => by
    rw [along_ix2, along_ix2]; rfl
  have hπ : (sortedFrom (fun k k' : Fin C => FloatOps.cmpfTotal (F := Ideal) (φ := .f32) .gt (a (Shape.Idx.along (ix2 r j : (shape2 R C).Idx) (1 : Fin 2) k))
      (a (Shape.Idx.along (ix2 r j : (shape2 R C).Idx) (1 : Fin 2) k')) == 1#1) j) = sortedFrom (befR a r) j :=
    congrArg (fun b => sortedFrom b j) (funext fun k => funext fun k' => hb k k')
  unfold Host.sort2
  rw [dif_pos h2]
  exact ⟨(congrArg a (along_ix2 r j _)).trans (congrArg (fun k => a (ix2 r k)) hπ), (congrArg y (along_ix2 r j _)).trans (congrArg (fun k => y (ix2 r k)) hπ)⟩

/-- The first columns of a matrix at a position. -/
theorem slice_col (hK : K ≤ C) (h : (shape2 R C).Slices (fun _ => 0) (shape2 R K)) {α : Type} (v : (shape2 R C).Idx → α) (j : Fin K) :
    extractStridedSlice (shape2 R K) (fun _ => 0) v h (ix2 r j) = v (ix2 r (j.castLE hK)) := by
  unfold extractStridedSlice
  refine congrArg v (funext fun b => ?_)
  match b with
  | ⟨0, _⟩ => exact Fin.ext (Nat.zero_add _)
  | ⟨1, _⟩ => exact Fin.ext (Nat.zero_add _)

/-- The values: the entries at the first sorted positions. -/
theorem topK_values (hK : K ≤ C) (h : (shape2 R C).Slices (fun _ => 0) (shape2 R K)) (j : Fin K) :
    (Host.topK (shape2 R K) 1 (FloatOps.cmpfTotal (F := Ideal) (φ := .f32) .gt) a h).1 (ix2 r j)
      = a (ix2 r (sortedFrom (befR a r) (j.castLE hK))) := by
  exact (slice_col r hK h _ j).trans (sort2_at a r (iotaInDim (shape2 R C) 32 1) _).1

/-- The positions, as words. -/
theorem topK_indices (hK : K ≤ C) (h : (shape2 R C).Slices (fun _ => 0) (shape2 R K)) (j : Fin K) :
    (Host.topK (shape2 R K) 1 (FloatOps.cmpfTotal (F := Ideal) (φ := .f32) .gt) a h).2 (ix2 r j)
      = BitVec.ofNat 32 (sortedFrom (befR a r) (j.castLE hK)).val := by
  exact (slice_col r hK h _ j).trans (sort2_at a r (iotaInDim (shape2 R C) 32 1) _).2

end Cert.TopRank
-- ==== Proof.Ref.Value.lean ====
/-
  The reference's sparse code at an entry: the code where its magnitude ranks among its row's first 64, and 0 elsewhere.
-/
module

public import proofs.«01_k».proof.Proof.Ref.Run
public import proofs.«01_k».proof.Proof.Math.Top
public import Idealize.ShloMosaic.Lib.Routing.OpsSet
public import Idealize.ShloMosaic.Lib.Pointwise
public import Idealize.ShloMosaic.Lib.WordCmp

@[expose] public section

set_option maxRecDepth 16384

noncomputable section

namespace Cert.ReferenceIdeal.Ref

open Cert.ReferenceIdeal
open Idealize.ShloMosaic Idealize.ShloMosaic.Routing Idealize.ShloMosaic.WordCmp Cert.TopRank Classical
open Facts₀ Facts

/-- An entry of the code. -/
def codeAt (x : FVec Ideal S4096x768 .f32) (w : FVec Ideal S768x16384 .f32) (b : FVec Ideal S16384 .f32) (r : Fin 4096) (c : Fin 16384) : EReal :=
  (∑ k : Fin 768, (x (ix2 r k) : EReal) * w (ix2 k c)) + b (ix1 c)

/-- The code at an entry. -/
theorem codeR_apply (x : FVec Ideal S4096x768 .f32) (w : FVec Ideal S768x16384 .f32) (b : FVec Ideal S16384 .f32) (r : Fin 4096) (c : Fin 16384) :
    codeR x w b (ix2 r c) = codeAt x w b r c := by
  unfold codeAt
  pointwise [codeR]

/-- The reconstruction at an entry. -/
theorem reconR_apply (s : FVec Ideal S4096x16384 .f32) (wd : FVec Ideal S16384x768 .f32) (bd : FVec Ideal S768 .f32) (r : Fin 4096) (j : Fin 768) :
    reconR s wd bd (ix2 r j) = (∑ k : Fin 16384, (s (ix2 r k) : EReal) * wd (ix2 k j)) + bd (ix1 j) := by
  pointwise [reconR]

/-- The row numbers are the rows'. -/
theorem rowIdx_apply (r : Fin 4096) : rowIdx (ix2 r 0) = BitVec.ofNat 32 r.val := by
  have h := r.isLt
  have e : rowIdx (ix2 r 0) = Scalar.select (IntOp.cmpi .slt (BitVec.ofNat 32 r.val) 0#32) (IntOp.addi (BitVec.ofNat 32 r.val) 4096#32) (BitVec.ofNat 32 r.val) := by
    pointwise [rowIdx]
  rw [e]
  exact wrap_of_lt _ _ (by simp; omega)

variable (n : IVec S4096x64 32)

/-- The column numbers, none being negative, are unchanged. -/
theorem colIdx_apply (r : Fin 4096) (j : Fin 64) (h : (n (ix2 r j)).toNat < 2 ^ 31) : colIdx n (ix2 r j) = n (ix2 r j) := by
  have e : colIdx n (ix2 r j) = Scalar.select (IntOp.cmpi .slt (n (ix2 r j)) 0#32) (IntOp.addi (n (ix2 r j)) 16384#32) (n (ix2 r j)) := by
    pointwise [colIdx]
  rw [e]
  exact wrap_of_lt _ _ h

/-- The first of a pair is its row. -/
theorem pairIdx_row (r : Fin 4096) (j : Fin 64) : pairIdx n (ix3 r j 0) = rowIdx (ix2 r 0) := by
  unfold pairIdx
  generalize rowIdx = v
  generalize colIdx n = u
  pointwise

/-- The second of a pair is its column. -/
theorem pairIdx_col (r : Fin 4096) (j : Fin 64) : pairIdx n (ix3 r j 1) = colIdx n (ix2 r j) := by
  unfold pairIdx
  generalize rowIdx = v
  generalize colIdx n = u
  pointwise

/-- The mask at an entry. -/
theorem maskR_apply (f : Fin 4096 → Fin 64 → Fin 16384) (hn : ∀ r j, n (ix2 r j) = BitVec.ofNat 32 (f r j).val) (r : Fin 4096) (c : Fin 16384) :
    maskR (F := Ideal) n (ix2 r c) = if ∃ j, f r j = c then (1 : EReal) else 0 := by
  have hlands : ∀ (a : Fin 4096) (b : Fin 64), scatter_S4096x16384_S4096x64x2_S4096x64_n_01_01_2.resultIdx? (ix2 a b) (pairIdx n) = some (ix2 r c)
      ↔ a = r ∧ f a b = c := fun a b => by
    refine (scatter_lands2 (w := 32) _ rfl rfl rfl (pairIdx n) a b r c).trans ?_
    show (pairIdx n (ix3 a b 0)).toInt = _ ∧ (pairIdx n (ix3 a b 1)).toInt = _ ↔ _
    rw [pairIdx_row, pairIdx_col, rowIdx_apply, colIdx_apply n a b (by rw [hn]; have := (f a b).isLt; simp; omega), hn,
      toInt_ofNat_of_lt (by have := a.isLt; omega), toInt_ofNat_of_lt (by have := (f a b).isLt; omega), Fin.ext_iff, Fin.ext_iff]
    omega
  unfold maskR
  by_cases h : ∃ j, f r j = c
  · rw [if_pos h]
    obtain ⟨j, hj⟩ := h
    exact (scatter_set_hit _ _ _ _ _ (1 : EReal) (fun k _ => by
      show Ideal.ofBits .f32 0x3F800000#32 = 1
      simp) (ix2 r j) ((hlands r j).mpr ⟨rfl, hj⟩))
  · rw [if_neg h]
    refine (scatter_set_miss _ _ _ _ _ (fun k hk => h ?_)).trans (by show Ideal.ofBits .f32 0#32 = 0; simp)
    have hk' : k = ix2 (k 0) (k 1) := by
      funext b
      match b with
      | ⟨0, _⟩ => rfl
      | ⟨1, _⟩ => rfl
    rw [hk'] at hk
    obtain ⟨h1, h2⟩ := (hlands _ _).mp hk
    exact ⟨k 1, h1 ▸ h2⟩

/-- The sparse code at an entry. -/
theorem sparseR_apply (x : FVec Ideal S4096x768 .f32) (w : FVec Ideal S768x16384 .f32) (b : FVec Ideal S16384 .f32) (r : Fin 4096) (c : Fin 16384) :
    sparseR x w b (ix2 r c) = if rank (fun n => max (codeAt x w b r n) (-(codeAt x w b r n))) c < 64 then codeAt x w b r c else 0 := by
  have ha : ∀ r' n', Host.absf (codeR x w b) (ix2 r' n') = max (codeAt x w b r' n') (-(codeAt x w b r' n')) := fun r' n' => by
    rw [← codeR_apply]; rfl
  generalize hA : Host.absf (codeR x w b) = A at ha
  have hm := maskR_apply (topIdx A) (fun r' j => sortedFrom (befR A r') (j.castLE (by decide : 64 ≤ 16384)))
    (fun r' j => topK_indices A r' (by decide) _ j) r c
  have hex := exists_pos_iff (fun n => (A (ix2 r n) : EReal)) (befR A r) (fun m n => befR_iff A r m n) 64 c
  have hrow : (fun n => (A (ix2 r n) : EReal)) = fun n => max (codeAt x w b r n) (-(codeAt x w b r n)) := funext fun n => ha r n
  have hiff : (∃ j : Fin 64, sortedFrom (befR A r) (j.castLE (by decide : 64 ≤ 16384)) = c) ↔ rank (fun n => max (codeAt x w b r n) (-(codeAt x w b r n))) c < 64 := by
    rw [← hrow, ← hex]
    exact ⟨fun ⟨j, hj⟩ => ⟨_, j.isLt, hj⟩, fun ⟨j, h, hj⟩ => ⟨⟨j.val, h⟩, hj⟩⟩
  have e : sparseR x w b (ix2 r c) = codeAt x w b r c * (maskR (F := Ideal) (topIdx A) (ix2 r c) : EReal) := by
    rw [← codeR_apply, ← hA]; rfl
  rw [e, hm]
  by_cases h : rank (fun n => max (codeAt x w b r n) (-(codeAt x w b r n))) c < 64
  · rw [if_pos h, if_pos (hiff.mpr h), mul_one]
  · rw [if_neg h, if_neg (fun h' => h (hiff.mp h')), mul_zero]

end Cert.ReferenceIdeal.Ref
-- ==== Proof.Val.Windows.lean ====
/-
  The launches' blocks at coordinates: which entries of the arrays each point is given.
-/
module

public import proofs.«01_k».proof.Proof.Val.Block
public import proofs.«01_k».proof.Proof.Enc.Segs
public import proofs.«01_k».proof.Proof.Ref.Value
public import Idealize.ShloMosaic.Lib.Pipeline.ValueKit

@[expose] public section

set_option maxRecDepth 16384

noncomputable section

namespace Cert.KernelIdeal.Val

open Cert.KernelIdeal Cert.KernelIdeal.Gen Cert.KernelIdeal.Enc
open Idealize.ShloMosaic Idealize.ShloMosaic.TcCoe Idealize.ShloMosaic.WordCmp Cert.TopRank Classical

/-- Which block of the input's rows a point is given. -/
theorem idx0_0 : ∀ t : Fin cfg0.N, win0_0.index t = ![min (t.val / 8) 31, 0] := (by decide +kernel : ∀ t : Fin grid0.N, _)
/-- Which of the encoder's columns. -/
theorem idx0_1 : ∀ t : Fin cfg0.N, win0_1.index t = ![0, t.val % 8] := (by decide +kernel : ∀ t : Fin grid0.N, _)
/-- Which of its bias' columns. -/
theorem idx0_2 : ∀ t : Fin cfg0.N, win0_2.index t = ![0, t.val % 8] := (by decide +kernel : ∀ t : Fin grid0.N, _)
/-- Which block of the sparse code it writes. -/
theorem idx0_3 : ∀ t : Fin cfg0.N, win0_3.index t = ![t.val / 8 - 1, 0] := (by decide +kernel : ∀ t : Fin grid0.N, _)
/-- Which block of the sparse code a point of the second launch is given. -/
theorem idx1_0 : ∀ t : Fin cfg1.N, win1_0.index t = ![t.val, 0] := (by decide +kernel : ∀ t : Fin grid1.N, _)
/-- The whole decoder. -/
theorem idx1_1 : ∀ t : Fin cfg1.N, win1_1.index t = ![0, 0] := (by decide +kernel : ∀ t : Fin grid1.N, _)
/-- The whole of its bias. -/
theorem idx1_2 : ∀ t : Fin cfg1.N, win1_2.index t = ![0, 0] := (by decide +kernel : ∀ t : Fin grid1.N, _)
/-- Which block of the reconstruction it writes. -/
theorem idx1_3 : ∀ t : Fin cfg1.N, win1_3.index t = ![t.val, 0] := (by decide +kernel : ∀ t : Fin grid1.N, _)

/-- A block's entry lies at the block's number times its length, and the entry's place in it. -/
theorem at_idx {i v s r R : ℕ} (e : i = v) (h : v * s + r = R) : i * s + r = R := by rw [e]; exact h

/-- The same of an axis in blocks of length 1. -/
theorem at_idx_one {i v r R : ℕ} (e : i = v) (h : v + r = R) : i + r = R := by rw [e]; exact h

variable {F : FTy → Type} [FloatOps F] (c : Dev nD) (V : (b : Ref sig .tc) → Buf (Elt F) ((c : Thread nD τ).loc b))

/-- The input's rows that a point is given, at an entry. -/
theorem xs_apply (t : Fin 264) (r : Fin 128) (k : Fin 768) (R : Fin 4096) (hR : R.val = 128 * min (t.val / 8) 31 + r.val) :
    xs c V t (ix2 r k) = V main_arg0 (ix2 (n0 := 4096) (n1 := 768) R k) := by
  unfold xs
  blk_simp
  refine congrArg (V main_arg0) (funext fun a => Fin.ext ?_)
  match a with
  | ⟨0, _⟩ => blk_simp; exact at_idx (congrFun (idx0_0 t) 0) (by show min (t.val / 8) 31 * 128 + r.val = R.val; omega)
  | ⟨1, _⟩ => blk_simp; exact at_idx (congrFun (idx0_0 t) 1) (by show 0 * 768 + k.val = k.val; omega)

/-- The encoder's columns that it is given, at an entry. -/
theorem ws_apply (t : Fin 264) (k : Fin 768) (j : Fin 2048) (C : Fin 16384) (hC : C.val = 2048 * (t.val % 8) + j.val) :
    ws c V t (ix2 k j) = V main_arg1 (ix2 (n0 := 768) (n1 := 16384) k C) := by
  unfold ws
  blk_simp
  refine congrArg (V main_arg1) (funext fun a => Fin.ext ?_)
  match a with
  | ⟨0, _⟩ => blk_simp; exact at_idx (congrFun (idx0_1 t) 0) (by show 0 * 768 + k.val = k.val; omega)
  | ⟨1, _⟩ => blk_simp; exact at_idx (congrFun (idx0_1 t) 1) (by show t.val % 8 * 2048 + j.val = C.val; omega)

/-- The bias that it is given, at an entry. -/
theorem bs_apply (t : Fin 264) (j : Fin 2048) (C : Fin 16384) (hC : C.val = 2048 * (t.val % 8) + j.val) :
    bs c V t (ix2 0 j) = V main_v0 (ix2 (n0 := 1) (n1 := 16384) 0 C) := by
  unfold bs
  blk_simp
  refine congrArg (V main_v0) (funext fun a => Fin.ext ?_)
  match a with
  | ⟨0, _⟩ => blk_simp; exact at_idx_one (congrFun (idx0_2 t) 0) rfl
  | ⟨1, _⟩ => blk_simp; exact at_idx (congrFun (idx0_2 t) 1) (by show t.val % 8 * 2048 + j.val = C.val; omega)

/-- The code's rows that a point of the second launch is given, at an entry. -/
theorem zsB_apply (t : Fin 32) (r : Fin 128) (k : Fin 16384) (R : Fin 4096) (hR : R.val = 128 * t.val + r.val) :
    zsB c V t (ix2 r k) = V main_v2 (ix2 (n0 := 4096) (n1 := 16384) R k) := by
  unfold zsB
  blk_simp
  refine congrArg (V main_v2) (funext fun a => Fin.ext ?_)
  match a with
  | ⟨0, _⟩ => blk_simp; exact at_idx (congrFun (idx1_0 t) 0) (by show t.val * 128 + r.val = R.val; omega)
  | ⟨1, _⟩ => blk_simp; exact at_idx (congrFun (idx1_0 t) 1) (by show 0 * 16384 + k.val = k.val; omega)

/-- The decoder at an entry. -/
theorem wdB_apply (t : Fin 32) (k : Fin 16384) (j : Fin 768) :
    wdB c V t (ix2 k j) = V main_v3 (ix2 (n0 := 16384) (n1 := 768) k j) := by
  unfold wdB
  blk_simp
  refine congrArg (V main_v3) (funext fun a => Fin.ext ?_)
  match a with
  | ⟨0, _⟩ => blk_simp; exact at_idx (congrFun (idx1_1 t) 0) (by show 0 * 16384 + k.val = k.val; omega)
  | ⟨1, _⟩ => blk_simp; exact at_idx (congrFun (idx1_1 t) 1) (by show 0 * 768 + j.val = j.val; omega)

/-- The decoder's bias at an entry. -/
theorem bdB_apply (t : Fin 32) (j : Fin 768) :
    bdB c V t (ix2 0 j) = V main_v1 (ix2 (n0 := 1) (n1 := 768) 0 j) := by
  unfold bdB
  blk_simp
  refine congrArg (V main_v1) (funext fun a => Fin.ext ?_)
  match a with
  | ⟨0, _⟩ => blk_simp; exact at_idx_one (congrFun (idx1_2 t) 0) rfl
  | ⟨1, _⟩ => blk_simp; exact at_idx (congrFun (idx1_2 t) 1) (by show 0 * 768 + j.val = j.val; omega)

end Cert.KernelIdeal.Val
-- ==== Proof.Val.Arrays.lean ====
/-
  What the two launches leave, as the reference's mathematics: the sparse code and its reconstruction.
-/
module

public import proofs.«01_k».proof.Proof.Val.Windows
public import proofs.«01_k».proof.Proof.Enc.Main
public import Idealize.ShloMosaic.Lib.Pointwise

@[expose] public section

set_option maxRecDepth 16384

noncomputable section

namespace Cert.KernelIdeal.Val

open Cert.KernelIdeal Cert.KernelIdeal.Gen Cert.KernelIdeal.Enc
open Idealize.ShloMosaic Idealize.ShloMosaic.TcCoe Idealize.ShloMosaic.WordCmp Cert.TopRank Classical
open Cert.ReferenceIdeal.Ref (codeAt sparseR reconR sparseR_apply reconR_apply)

variable (m : (ℓ : Loc nD τ sig) → Buf (Elt Ideal) ℓ) (c : Dev nD)

/-- The arguments: the input, the encoder and its bias, the decoder and its bias. -/
abbrev ax : FVec Ideal S4096x768 .f32 := m ((c.tc : Thread nD τ).loc main_arg0)
/-- The encoder. -/
abbrev aw : FVec Ideal S768x16384 .f32 := m ((c.tc : Thread nD τ).loc main_arg1)
/-- Its bias. -/
abbrev ab : FVec Ideal S16384 .f32 := m ((c.tc : Thread nD τ).loc main_arg2)
/-- The decoder. -/
abbrev ad : FVec Ideal S16384x768 .f32 := m ((c.tc : Thread nD τ).loc main_arg3)
/-- Its bias. -/
abbrev ae : FVec Ideal S768 .f32 := m ((c.tc : Thread nD τ).loc main_arg4)

/-- The sparse code the first launch leaves. -/
abbrev az : FVec Ideal S4096x16384 .f32 := zsV m c

/-- The first launch is entered with the input. -/
theorem W1_arg0 : W1 m c main_arg0 = ax m c := V1_of m c main_arg0 (by decide)
/-- And with the encoder. -/
theorem W1_arg1 : W1 m c main_arg1 = aw m c := V1_of m c main_arg1 (by decide)
/-- And with its bias, as a row. -/
theorem W1_v0 (C : Fin 16384) : W1 m c main_v0 (ix2 (n0 := 1) (n1 := 16384) 0 C) = ab m c (ix1 C) := by
  have e : W1 m c main_v0 = shapeCast S1x16384 (ab m c) Facts₀.shapeCasts_S16384_S1x16384 := by
    show StableHlo.after hostOps0 (V0 m c) (Proc.devRef .tc main_v0) = _
    after_results
    rfl
  rw [e]
  generalize ab m c = v
  pointwise
/-- The decoder's bias is held as a row. -/
theorem W1_v1 (j : Fin 768) : W1 m c main_v1 (ix2 (n0 := 1) (n1 := 768) 0 j) = ae m c (ix1 j) := by
  have e : W1 m c main_v1 = shapeCast S1x768 (ae m c) Facts₀.shapeCasts_S768_S1x768 := by
    show StableHlo.after hostOps0 (V0 m c) (Proc.devRef .tc main_v1) = _
    after_results
    rfl
  rw [e]
  generalize ae m c = v
  pointwise
/-- It is still held when the second launch is entered. -/
theorem W3_v1 : W3 m c main_v1 = W1 m c main_v1 := by
  show V3 m (outs1 m) c main_v1 = _
  rw [V3_of m (outs1 m) c main_v1 (by decide), V2_of m (outs1 m) c main_v1 (by decide)]
/-- The decoder is unchanged by the first launch. -/
theorem V2_arg3 : V2 m (outs1 m) c main_arg3 = ad m c :=
  (V2_of m (outs1 m) c main_arg3 (by decide)).trans (V1_of m c main_arg3 (by decide))
/-- The second launch is entered with the decoder, its cast being the identity. -/
theorem W3_v3 (k : Fin 16384) (j : Fin 768) : W3 m c main_v3 (ix2 (n0 := 16384) (n1 := 768) k j) = ad m c (ix2 k j) := by
  have e : W3 m c main_v3 = (truncf .bf16 (V2 m (outs1 m) c main_arg3) Facts₀.bitsLt_bf16_f32 : FVec Ideal S16384x768 .bf16) := by
    show StableHlo.after hostOps1 (V2 m (outs1 m) c) (Proc.devRef .tc main_v3) = _
    after_results
  rw [e, V2_arg3]
  rfl

/-- The code the launch computes of a block is the code of the block's rows. -/
theorem zAt_code (q : Fin 32) (r : Fin 128) (n : Fin 16384) (R : Fin 4096) (hR : R.val = 128 * q.val + r.val) :
    zAt (xs c (W1 m c)) (ws c (W1 m c)) (bs c (W1 m c)) q.castSucc r n = codeAt (ax m c) (aw m c) (ab m c) R n := by
  have hn := n.isLt
  have hq := q.isLt
  have hp : (pn q.castSucc (colOf (ix3 0 r n))).val = 8 * q.val + n.val / 2048 := rfl
  unfold zAt blkCode codeAt
  refine congrArg₂ (· + ·) (Finset.sum_congr rfl fun k _ => congrArg₂ (· * ·) ?_ ?_) ?_
  · exact (xs_apply c _ _ r k R (by rw [hp, hR]; omega)).trans (congrFun (W1_arg0 m c) _)
  · exact (ws_apply c _ _ k _ n (by rw [hp]; show n.val = 2048 * _ + n.val % 2048; omega)).trans (congrFun (W1_arg1 m c) _)
  · exact (bs_apply c _ _ _ n (by rw [hp]; show n.val = 2048 * _ + n.val % 2048; omega)).trans (W1_v0 m c n)

/-- The sparse code the first launch leaves is the reference's, where the cut is told apart. -/
theorem zsV_eq (hT : ∀ R : Fin 4096, Told (fun n => max (codeAt (ax m c) (aw m c) (ab m c) R n) (-(codeAt (ax m c) (aw m c) (ab m c) R n)))) :
    zsV m c = sparseR (ax m c) (aw m c) (ab m c) := by
  unfold zsV
  refine (dat0 c (W1 m c)).arrAt_eq_of_covers 3 _ (by decide +kernel) fun t hf y => ?_
  have hfl := flush0_3 t hf
  have ht : t.val < 264 := t.isLt
  revert y
  refine fun y => Eq.trans (b := outBlk (xs c (W1 m c)) (ws c (W1 m c)) (bs c (W1 m c)) (blkOf t) y) (by blk_simp; rfl) ?_
  obtain ⟨r, n, rfl⟩ : ∃ (r : Fin 128) (n : Fin 16384), y = ix2 r n := ⟨y 0, y 1, (ix2_eta y).symm⟩
  have hR : 128 * (blkOf t).val + r.val < 4096 := by have := (blkOf t).isLt; have := r.isLt; omega
  have hz : ∀ (r' : Fin 128) n', zAt (xs c (W1 m c)) (ws c (W1 m c)) (bs c (W1 m c)) (blkOf t).castSucc r' n'
      = codeAt (ax m c) (aw m c) (ab m c) ⟨128 * (blkOf t).val + r'.val, by have := (blkOf t).isLt; have := r'.isLt; omega⟩ n' :=
    fun r' n' => zAt_code m c _ r' n' _ rfl
  rw [outBlk_apply _ _ _ (blkOf t) (fun r' => by simp only [hz]; exact hT _) r n]
  simp only [hz]
  refine (sparseR_apply (ax m c) (aw m c) (ab m c) ⟨128 * (blkOf t).val + r.val, hR⟩ n).symm.trans ?_
  refine congrArg (sparseR (ax m c) (aw m c) (ab m c)) (funext fun a => Fin.ext ?_)
  match a with
  | ⟨0, _⟩ => blk_simp; exact (at_idx (congrFun (idx0_3 t) 0) (by show (t.val / 8 - 1) * 128 + r.val = 128 * (t.val / 8 - 1) + r.val; omega)).symm
  | ⟨1, _⟩ => blk_simp; exact (at_idx (congrFun (idx0_3 t) 1) (by show 0 * 16384 + n.val = n.val; omega)).symm

/-- A block of the second launch's result. -/
theorem rec_apply (z : Vec Ideal S128x16384 .f32) (w : Vec Ideal S16384x768 .bf16) (b : Vec Ideal S1x768 .f32) (r : Fin 128) (j : Fin 768) :
    k1_pay1 z w b (ix2 r j) = (∑ k : Fin 16384, (z (ix2 r k) : EReal) * w (ix2 k j)) + b (ix2 0 j) := by
  pointwise [k1_pay1]

/-- The reconstruction the second launch leaves is the reference's, of the code it is given. -/
theorem recV_eq : recV m c = reconR (az m c) (ad m c) (ae m c) := by
  unfold recV
  refine (dat1 c (W3 m c)).arrAt_eq_of_covers 3 _ (by decide +kernel) fun t hf y => ?_
  have ht : t.val < 32 := t.isLt
  revert y
  refine fun y => Eq.trans (b := k1_pay1 (zsB c (W3 m c) t) (wdB c (W3 m c) t) (bdB c (W3 m c) t) y) (by blk_simp; rfl) ?_
  obtain ⟨r, j, rfl⟩ : ∃ (r : Fin 128) (j : Fin 768), y = ix2 r j := ⟨y 0, y 1, (ix2_eta y).symm⟩
  have hR : 128 * t.val + r.val < 4096 := by have := r.isLt; omega
  refine (rec_apply _ _ _ r j).trans ?_
  refine Eq.trans (b := (∑ k : Fin 16384, (az m c (ix2  ⟨128 * t.val + r.val, hR⟩ k) : EReal) * ad m c (ix2 k j)) + ae m c (ix1 j)) ?_ ?_
  · refine congrArg₂ (· + ·) (Finset.sum_congr rfl fun k _ => congrArg₂ (· * ·) ?_ ?_) ?_
    · exact (zsB_apply c _ t r k ⟨128 * t.val + r.val, hR⟩ rfl).trans (congrFun (W3_v2 m c) _)
    · exact (wdB_apply c _ t k j).trans (W3_v3 m c k j)
    · exact (bdB_apply c _ t j).trans ((congrFun (W3_v1 m c) _).trans (W1_v1 m c j))
  refine (reconR_apply (az m c) (ad m c) (ae m c) ⟨128 * t.val + r.val, hR⟩ j).symm.trans ?_
  refine congrArg (reconR (az m c) (ad m c) (ae m c)) (funext fun a => Fin.ext ?_)
  match a with
  | ⟨0, _⟩ => blk_simp; exact (at_idx (congrFun (idx1_3 t) 0) (by show t.val * 128 + r.val = 128 * t.val + r.val; omega)).symm
  | ⟨1, _⟩ => blk_simp; exact (at_idx (congrFun (idx1_3 t) 1) (by show 0 * 768 + j.val = j.val; omega)).symm

end Cert.KernelIdeal.Val
-- ==== Proof.Val.PreRow.lean ====
/-
  The precondition, read: in each row the float that the search of bits finds tells the first 64 magnitudes from the rest.
-/
module

public import proofs.«01_k».proof.Proof.Val.Mask
public import proofs.«01_k».proof.Proof.Ref.Value
public import proofs.«01_k».proof.Pre_cut_is_told_apart
public import Idealize.ShloMosaic.Lib.Routing.Ops

@[expose] public section

set_option maxRecDepth 16384

noncomputable section

namespace Cert.Pre_cut_is_told_apart

open Idealize.ShloMosaic Idealize.ShloMosaic.WordCmp Idealize.ShloMosaic.Routing Cert.TopRank Classical
open Cert.KernelIdeal.Val (Pass fOf Told)
open Facts

variable [Facts]

/-- A word spread over the rows. -/
def wordB (k : BitVec 32) : IVec S4096x1 32 := broadcastInDim S4096x1 ![] bcast_S_S4096x1 (constantI S_ 32 k)

/-- One bit of the search. -/
def stepP (v : FVec Ideal S4096x1 .f32) (s : IVec S4096x1 32) (k : BitVec 32) : IVec S4096x1 32 :=
  fn_where (F := Ideal) (cmpf .ole (bitcastToFloat .f32 (ori s (wordB k))) v) (ori s (wordB k)) s

/-- The search after `n` bits. -/
def wordP (v : FVec Ideal S4096x1 .f32) : ℕ → IVec S4096x1 32
  | 0 => wordB 0#32
  | n + 1 => stepP v (wordP v n) (bitAt n)

/-- Each row's 64th greatest entry. -/
def cutP (A : FVec Ideal S4096x16384 .f32) : FVec Ideal S4096x1 .f32 :=
  extractStridedSlice S4096x1 ![0, 63] (Host.topK S4096x64 1 (FloatOps.cmpfTotal (F := Ideal) (φ := .f32) .gt) A sliceFits_S4096x16384_S4096x64).1 slices_S4096x64_S4096x1_0_63

/-- How many of a row's entries are at least the float found. -/
def countP (A : FVec Ideal S4096x16384 .f32) (f : FVec Ideal S4096x1 .f32) : IVec S4096 32 :=
  Host.reduce IntOp.addi (extui 32 (cmpf .oge A (broadcastInDim S4096x16384 ![0, 1] bcast_S4096x1_S4096x16384_0_1 f)) natLt_1_32) (constantI S_ 32 0#32)
    reducesTo_S4096x16384_S4096_d1 h_S_

/-- The test, of the magnitudes, their cut and the word found. -/
def testP (A : FVec Ideal S4096x16384 .f32) (v : FVec Ideal S4096x1 .f32) (s : IVec S4096x1 32) : IVec S4096x1 1 :=
  ori (cmpf .oeq (bitcastToFloat .f32 s) v)
    (cmpi .eq (broadcastInDim S4096x1 ![0] bcast_S4096_S4096x1_0 (countP A (bitcastToFloat .f32 s))) (wordB 64#32))

/-- The precondition in its parts. -/
theorem fn_eq (x : FVec Ideal S4096x768 .f32) (w : FVec Ideal S768x16384 .f32) (b : FVec Ideal S16384 .f32) (d : FVec Ideal S16384x768 .f32) (e : FVec Ideal S768 .f32) :
    fn (F := Ideal) x w b d e = testP (Host.absf (Cert.ReferenceIdeal.Ref.codeR x w b)) (cutP (Host.absf (Cert.ReferenceIdeal.Ref.codeR x w b)))
      (wordP (cutP (Host.absf (Cert.ReferenceIdeal.Ref.codeR x w b))) 31) := rfl

/-- The word found in a row is the search's. -/
theorem wordP_apply (v : FVec Ideal S4096x1 .f32) (r : Fin 4096) (n : ℕ) :
    wordP v n (ix2 r 0) = srch (fun s => (FloatOps.ofBits (F := Ideal) .f32 s : EReal) ≤ v (ix2 r 0)) n := by
  induction n with
  | zero => rfl
  | succ n ih =>
    have e : wordP v (n + 1) (ix2 r 0) = Scalar.select (BitVec.ofBool (decide ((FloatOps.ofBits (F := Ideal) .f32 (wordP v n (ix2 r 0) ||| bitAt n) : EReal) ≤ v (ix2 r 0))))
        (wordP v n (ix2 r 0) ||| bitAt n) (wordP v n (ix2 r 0)) := by
      rfl
    rw [e, select_decide, ih, srch]
    by_cases h : (FloatOps.ofBits (F := Ideal) .f32 (srch (fun s => (FloatOps.ofBits (F := Ideal) .f32 s : EReal) ≤ v (ix2 r 0)) n ||| bitAt n) : EReal) ≤ v (ix2 r 0)
    · rw [if_pos h, if_pos h]
    · rw [if_neg h, if_neg h]

/-- The 64th largest magnitude of a row. -/
theorem cutP_apply (A : FVec Ideal S4096x16384 .f32) (r : Fin 4096) :
    cutP A (ix2 r 0) = A (ix2 r (sortedFrom (befR A r) ⟨63, by decide⟩)) := by
  refine Eq.trans ?_ (topK_values A r (by decide : 64 ≤ 16384) sliceFits_S4096x16384_S4096x64 ⟨63, by decide⟩)
  unfold cutP extractStridedSlice
  refine congrArg _ (funext fun b => ?_)
  match b with
  | ⟨0, _⟩ => exact Fin.ext (Nat.zero_add _)
  | ⟨1, _⟩ => rfl

/-- How many magnitudes of a row reach a number. -/
theorem countP_apply (A : FVec Ideal S4096x16384 .f32) (f : FVec Ideal S4096x1 .f32) (r : Fin 4096) :
    countP A f (ix1 r) = BitVec.ofNat 32 (nge (fun n => (A (ix2 r n) : EReal)) (f (ix2 r 0))) := by
  unfold countP
  refine (reduce_count (m := 16384) (by decide) _ _ _ _ r (fun q => ∃ h : q < 16384, (f (ix2 r 0) : EReal) ≤ A (ix2 r ⟨q, h⟩)) (fun q => ?_)).trans ?_
  · refine Iff.trans (b := BitVec.ofBool (decide ((f (ix2 r 0) : EReal) ≤ A (ix2 r q))) = 1#1) (Eq.congr_left ?_) ((ofBool_decide_eq_one_iff _).trans ⟨fun h => ⟨q.isLt, h⟩, fun ⟨_, h⟩ => h⟩)
    pointwise
    rfl
  · rw [← card_filter_fin]
    unfold nge
    refine congrArg (fun s : Finset (Fin 16384) => BitVec.ofNat 32 s.card) (Finset.filter_congr fun q _ => ⟨fun ⟨_, h⟩ => h, fun h => ⟨q.isLt, h⟩⟩)

/-- Where the precondition holds, every row's magnitudes are told apart. -/
theorem told (x : FVec Ideal S4096x768 .f32) (w : FVec Ideal S768x16384 .f32) (b : FVec Ideal S16384 .f32) (d : FVec Ideal S16384x768 .f32) (e : FVec Ideal S768 .f32)
    (h : fn (F := Ideal) x w b d e = fun _ => 1#1) (r : Fin 4096) :
    Told (fun n => max (Cert.ReferenceIdeal.Ref.codeAt x w b r n) (-(Cert.ReferenceIdeal.Ref.codeAt x w b r n))) := by
  have ha : ∀ n', Host.absf (Cert.ReferenceIdeal.Ref.codeR x w b) (ix2 r n') = max (Cert.ReferenceIdeal.Ref.codeAt x w b r n') (-(Cert.ReferenceIdeal.Ref.codeAt x w b r n')) := fun n' => by
    rw [← Cert.ReferenceIdeal.Ref.codeR_apply]; rfl
  rw [fn_eq] at h
  generalize hA : Host.absf (Cert.ReferenceIdeal.Ref.codeR x w b) = A at ha h
  have hrow : (fun n => (A (ix2 r n) : EReal)) = fun n => max (Cert.ReferenceIdeal.Ref.codeAt x w b r n) (-(Cert.ReferenceIdeal.Ref.codeAt x w b r n)) := funext fun n => ha n
  rw [← hrow]
  have hpos : ∀ c : EReal, c ≤ cutP A (ix2 r 0) ↔ 64 ≤ nge (fun n => (A (ix2 r n) : EReal)) c := fun c => by
    rw [cutP_apply]
    exact le_pos_iff (fun n => (A (ix2 r n) : EReal)) (befR A r) (fun m n => befR_iff A r m n) ⟨63, by decide⟩ c
  have hf : FloatOps.ofBits (F := Ideal) .f32 (wordP (cutP A) 31 (ix2 r 0)) = fOf (fun n => (A (ix2 r n) : EReal)) := by
    rw [wordP_apply]
    exact congrArg _ (srch_congr (fun s => hpos _) 31)
  have h1 : IntOp.ori (BitVec.ofBool (decide ((fOf (fun n => (A (ix2 r n) : EReal)) : EReal) = cutP A (ix2 r 0))))
      (IntOp.cmpi .eq (BitVec.ofNat 32 (nge (fun n => (A (ix2 r n) : EReal)) (fOf (fun n => (A (ix2 r n) : EReal))))) 64#32) = 1#1 := by
    refine Eq.trans ?_ (congrFun h (ix2 r 0))
    have hc := countP_apply A (bitcastToFloat .f32 (wordP (cutP A) 31)) r
    have hf' : bitcastToFloat (F := Ideal) .f32 (wordP (cutP A) 31) (ix2 r 0) = fOf (fun n => (A (ix2 r n) : EReal)) := hf
    rw [hf'] at hc
    rw [← hc, ← hf]
    unfold testP
    generalize countP A (bitcastToFloat (F := Ideal) .f32 (wordP (cutP A) 31)) = u
    pointwise [wordB]
  have hn : nge (fun n => (A (ix2 r n) : EReal)) (fOf (fun n => (A (ix2 r n) : EReal))) ≤ 16384 := by
    refine (Finset.card_le_univ _).trans ?_
    rw [Fintype.card_fin]
  rw [cmpi_eq_ofNat (by omega) (by decide), ori_ofBool, ofBool_eq_one_iff, Bool.or_eq_true, decide_eq_true_iff, decide_eq_true_iff] at h1
  rcases h1 with he | he
  · refine ⟨(hpos _).mp he.le, .inl ?_⟩
    have hr := rank_sortedFrom (fun n => (A (ix2 r n) : EReal)) (befR A r) (fun m n => befR_iff A r m n) ⟨63, by decide⟩
    rw [rank_of_eq _ (fOf (fun n => (A (ix2 r n) : EReal))) _ (by rw [he, cutP_apply])] at hr
    change _ = 63 at hr
    omega
  · exact ⟨he.ge, .inr he⟩

end Cert.Pre_cut_is_told_apart
-- ==== Proof.lean ====
/- The proof of the claims: the frames and the rewrite from their own module; the value here, from what the two programs leave. -/
module

public import proofs.«01_k».proof.Defs
public import proofs.«01_k».proof.Proof.Frames
public import proofs.«01_k».proof.Proof.Val.Arrays
public import proofs.«01_k».proof.Proof.Val.PreRow

@[expose] public section

set_option maxRecDepth 16384

noncomputable section

namespace Cert.Proof

open Idealize.ShloMosaic Idealize.ShloMosaic.TcCoe Idealize.SL.Sem
open Cert.KernelIdeal.Val (ax aw ab ad ae)

/-- Where the cut is told apart, the idealized kernel leaves the reference's sparse code and reconstruction. -/
theorem algebraic : algebraic_KernelIdeal_ReferenceIdeal_pre_cut_is_told_apart := by
  intro m g m' g' hpre hargs
  have hz : ∀ c, Cert.KernelIdeal.Enc.zsV m c = Cert.ReferenceIdeal.Ref.sparseR (ax m c) (aw m c) (ab m c) := fun c =>
    Cert.KernelIdeal.Val.zsV_eq m c (fun R => Cert.Pre_cut_is_told_apart.told _ _ _ _ _ (hpre c) R)
  have hr : ∀ c, Cert.KernelIdeal.Enc.recV m c
      = Cert.ReferenceIdeal.Ref.reconR (Cert.ReferenceIdeal.Ref.sparseR (ax m c) (aw m c) (ab m c)) (ad m c) (ae m c) := fun c =>
    (Cert.KernelIdeal.Val.recV_eq m c).trans (congrArg (Cert.ReferenceIdeal.Ref.reconR · (ad m c) (ae m c)) (hz c))
  refine ⟨fun c => Cert.ReferenceIdeal.Ref.reconR (Cert.ReferenceIdeal.Ref.sparseR (ax m c) (aw m c) (ab m c)) (ad m c) (ae m c),
    fun c => Cert.ReferenceIdeal.Ref.sparseR (ax m c) (aw m c) (ab m c),
    θ_run_mono (Cert.KernelIdeal.Enc.run_main (F := Ideal) m g) (fun r h c => ?_),
    θ_run_mono (Cert.ReferenceIdeal.Ref.run (F := Ideal) m' g') (fun r h c => ?_)⟩
  · obtain ⟨h4, h2, hrest⟩ := h.1 c
    exact ⟨h4.trans (hr c), h2.trans (hz c), hrest⟩
  · obtain ⟨h28, h24, hrest⟩ := h c
    obtain ⟨e0, e1, e2, e3, e4⟩ := hargs c
    refine ⟨h28.trans ?_, h24.trans ?_, hrest⟩
    · rw [e0, e1, e2, e3, e4]
    · rw [e0, e1, e2]

/-- Every claim, under the facts that the generated modules prove. -/
theorem claim : Cert.Claim :=
  ⟨Cert.Kernel.Gen.facts, Cert.KernelIdeal.Gen.facts, Cert.ReferenceIdeal.Gen.facts, Cert.Frames.pre_facts,
    Cert.Frames.kernel,
    fun m g _ => Cert.Frames.kernelIdeal m g,
    fun m g _ => Cert.Frames.kernelIdeal m g,
    fun m g _ => Cert.Frames.referenceIdeal m g,
    fun m g _ => Cert.Frames.referenceIdeal m g,
    Cert.Frames.preserves,
    algebraic⟩

end Cert.Proof

end
